-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_tame [hPre_inputs_tame : Cert.Pre_inputs_tame.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_tame [hPre_inputs_tame : Cert.Pre_inputs_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_inputs_tame [hKernelIdeal : Cert.KernelIdeal.Facts] [hPre_inputs_tame : Cert.Pre_inputs_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_inputs_tame [hReferenceIdeal : Cert.ReferenceIdeal.Facts] [hPre_inputs_tame : Cert.Pre_inputs_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_inputs_tame [hKernelIdeal : Cert.KernelIdeal.Facts] [hReferenceIdeal : Cert.ReferenceIdeal.Facts] [hPre_inputs_tame : Cert.Pre_inputs_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v277) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v285) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_inputs_tame : Cert.Pre_inputs_tame.Facts),
    quiescent_Kernel (hKernel := hKernel)
    ∧ quiescent_KernelIdeal (hKernelIdeal := hKernelIdeal)
    ∧ quiescent_KernelIdeal_pre_inputs_tame (hKernelIdeal := hKernelIdeal) (hPre_inputs_tame := hPre_inputs_tame)
    ∧ quiescent_ReferenceIdeal (hReferenceIdeal := hReferenceIdeal)
    ∧ quiescent_ReferenceIdeal_pre_inputs_tame (hReferenceIdeal := hReferenceIdeal) (hPre_inputs_tame := hPre_inputs_tame)
    ∧ preserves_Kernel_KernelIdeal
    ∧ algebraic_KernelIdeal_ReferenceIdeal_pre_inputs_tame (hKernelIdeal := hKernelIdeal) (hReferenceIdeal := hReferenceIdeal) (hPre_inputs_tame := hPre_inputs_tame)
-- ==== Pre_inputs_tame.lean ====
abbrev S2048x3 : Shape := ⟨2, ![2048, 3]⟩
abbrev S131072x64 : Shape := ⟨2, ![131072, 64]⟩
abbrev S131072x3 : Shape := ⟨2, ![131072, 3]⟩
abbrev S2048x129 : Shape := ⟨2, ![2048, 129]⟩
abbrev S64x28x8 : Shape := ⟨3, ![64, 28, 8]⟩
abbrev S2048x128 : Shape := ⟨2, ![2048, 128]⟩
abbrev S128 : Shape := ⟨1, ![128]⟩
abbrev S1x128 : Shape := ⟨2, ![1, 128]⟩
abbrev S_ : Shape := ⟨0, ![]⟩

class Facts : Prop where
  bcast_S128_S1x128_1 : S128.BroadcastsInDim S1x128 (![1] : Fin 1 → Fin S1x128.rank)
  bcast_S_S1x128 : S_.BroadcastsInDim S1x128 (![] : Fin 0 → Fin S1x128.rank)
  bcast_S1x128_S2048x128_0_1 : S1x128.BroadcastsInDim S2048x128 (![0, 1] : Fin 2 → Fin S2048x128.rank)
  reducesTo_S2048x128_S_d0_1 : S2048x128.ReducesTo [0, 1] S_
  h_S_ : 0 < S_.numel
  bcast_S_S131072x64 : S_.BroadcastsInDim S131072x64 (![] : Fin 0 → Fin S131072x64.rank)
  reducesTo_S131072x64_S_d0_1 : S131072x64.ReducesTo [0, 1] S_
  bcast_S_S131072x3 : S_.BroadcastsInDim S131072x3 (![] : Fin 0 → Fin S131072x3.rank)
  reducesTo_S131072x3_S_d0_1 : S131072x3.ReducesTo [0, 1] S_
  bcast_S_S64x28x8 : S_.BroadcastsInDim S64x28x8 (![] : Fin 0 → Fin S64x28x8.rank)
  reducesTo_S64x28x8_S_d0_1_2 : S64x28x8.ReducesTo [0, 1, 2] S_

variable [Facts]

def fn_part1 {F : FTy → Type} [FloatOps F] (main_v16 : IVec S_ 1) (main_v17 : FVec F S64x28x8 .f32) : IVec S_ 1 :=
  let main_cst_4 : FVec F S_ .f32 := constant S_ .f32 0x7F800000#32
  let main_v18 : FVec F S64x28x8 .f32 := broadcastInDim S64x28x8 ![] bcast_S_S64x28x8 main_cst_4
  let main_v19 : IVec S64x28x8 1 := cmpf .olt main_v17 main_v18
  let main_c_5 : IVec S_ 1 := constantI S_ 1 1#1
  let main_v20 : IVec S_ 1 := (fun x v => Host.reduce IntOp.andi x v reducesTo_S64x28x8_S_d0_1_2 h_S_) main_v19 main_c_5
  let main_v21 : IVec S_ 1 := andi main_v16 main_v20
  main_v21

def fn {F : FTy → Type} [FloatOps F] (main_arg0 : FVec F S2048x3 .f32) (main_arg1 : FVec F S2048x3 .f32) (main_arg2 : FVec F S131072x64 .f32) (main_arg3 : FVec F S131072x3 .f32) (main_arg4 : FVec F S2048x129 .f32) (main_arg5 : FVec F S64x28x8 .f32) (main_arg6 : IVec S2048x128 1) : IVec S_ 1 :=
  let main_v0 : IVec S128 32 := iotaInDim S128 32 0
  let main_v1 : IVec S1x128 32 := broadcastInDim S1x128 ![1] bcast_S128_S1x128_1 main_v0
  let main_c : IVec S_ 32 := constantI S_ 32 64#32
  let main_v2 : IVec S1x128 32 := broadcastInDim S1x128 ![] bcast_S_S1x128 main_c
  let main_v3 : IVec S1x128 1 := cmpi .slt main_v1 main_v2
  let main_v4 : IVec S2048x128 1 := broadcastInDim S2048x128 ![0, 1] bcast_S1x128_S2048x128_0_1 main_v3
  let main_v5 : IVec S2048x128 1 := cmpi .eq main_arg6 main_v4
  let main_c_0 : IVec S_ 1 := constantI S_ 1 1#1
  let main_v6 : IVec S_ 1 := (fun x v => Host.reduce IntOp.andi x v reducesTo_S2048x128_S_d0_1 h_S_) main_v5 main_c_0
  let main_v7 : FVec F S131072x64 .f32 := Host.absf main_arg2
  let main_cst : FVec F S_ .f32 := constant S_ .f32 0x7F800000#32
  let main_v8 : FVec F S131072x64 .f32 := broadcastInDim S131072x64 ![] bcast_S_S131072x64 main_cst
  let main_v9 : IVec S131072x64 1 := cmpf .olt main_v7 main_v8
  let main_c_1 : IVec S_ 1 := constantI S_ 1 1#1
  let main_v10 : IVec S_ 1 := (fun x v => Host.reduce IntOp.andi x v reducesTo_S131072x64_S_d0_1 h_S_) main_v9 main_c_1
  let main_v11 : IVec S_ 1 := andi main_v6 main_v10
  let main_v12 : FVec F S131072x3 .f32 := Host.absf main_arg3
  let main_cst_2 : FVec F S_ .f32 := constant S_ .f32 0x7F800000#32
  let main_v13 : FVec F S131072x3 .f32 := broadcastInDim S131072x3 ![] bcast_S_S131072x3 main_cst_2
  let main_v14 : IVec S131072x3 1 := cmpf .olt main_v12 main_v13
  let main_c_3 : IVec S_ 1 := constantI S_ 1 1#1
  let main_v15 : IVec S_ 1 := (fun x v => Host.reduce IntOp.andi x v reducesTo_S131072x3_S_d0_1 h_S_) main_v14 main_c_3
  let main_v16 : IVec S_ 1 := andi main_v11 main_v15
  let main_v17 : FVec F S64x28x8 .f32 := Host.absf main_arg5
  fn_part1 (F := F) main_v16 main_v17
-- ==== Kernel.lean ====
abbrev S2048x3 : Shape := ⟨2, ![2048, 3]⟩
abbrev S131072x64 : Shape := ⟨2, ![131072, 64]⟩
abbrev S131072x3 : Shape := ⟨2, ![131072, 3]⟩
abbrev S2048x129 : Shape := ⟨2, ![2048, 129]⟩
abbrev S64x28x8 : Shape := ⟨3, ![64, 28, 8]⟩
abbrev S2048x128 : Shape := ⟨2, ![2048, 128]⟩
abbrev S3x4x224 : Shape := ⟨3, ![3, 4, 224]⟩
abbrev S28x224 : Shape := ⟨2, ![28, 224]⟩
abbrev S224x4 : Shape := ⟨2, ![224, 4]⟩
abbrev S64x64 : Shape := ⟨2, ![64, 64]⟩
abbrev S64x224 : Shape := ⟨2, ![64, 224]⟩
abbrev S2048x1 : Shape := ⟨2, ![2048, 1]⟩
abbrev S4096x64 : Shape := ⟨2, ![4096, 64]⟩
abbrev S4096x3 : Shape := ⟨2, ![4096, 3]⟩
abbrev S64x3 : Shape := ⟨2, ![64, 3]⟩
abbrev S64x129 : Shape := ⟨2, ![64, 129]⟩
abbrev S64x128 : Shape := ⟨2, ![64, 128]⟩
abbrev S64x1 : Shape := ⟨2, ![64, 1]⟩
abbrev S4096x1 : Shape := ⟨2, ![4096, 1]⟩
abbrev S4096x4 : Shape := ⟨2, ![4096, 4]⟩
abbrev S1x4x224 : Shape := ⟨3, ![1, 4, 224]⟩
abbrev S4x224 : Shape := ⟨2, ![4, 224]⟩
abbrev S4096x224 : Shape := ⟨2, ![4096, 224]⟩
abbrev S64 : Shape := ⟨1, ![64]⟩
abbrev S64x9 : Shape := ⟨2, ![64, 9]⟩
abbrev S64x28 : Shape := ⟨2, ![64, 28]⟩
abbrev S64x64x224 : Shape := ⟨3, ![64, 64, 224]⟩
abbrev S64x1x224 : Shape := ⟨3, ![64, 1, 224]⟩
abbrev S4096 : Shape := ⟨1, ![4096]⟩

abbrev nBuf : Space → Nat
  | .hbm => 15
  | .vmem => 23
  | .smem => 0
  | _ => 0

abbrev bufTy : (tb : Table) → Fin (tcTables nBuf tb) → BufTy
  | .hbm, ⟨0, _⟩ => ⟨S2048x3, .f32⟩
  | .hbm, ⟨1, _⟩ => ⟨S2048x3, .f32⟩
  | .hbm, ⟨2, _⟩ => ⟨S131072x64, .f32⟩
  | .hbm, ⟨3, _⟩ => ⟨S131072x3, .f32⟩
  | .hbm, ⟨4, _⟩ => ⟨S2048x129, .f32⟩
  | .hbm, ⟨5, _⟩ => ⟨S64x28x8, .f32⟩
  | .hbm, ⟨6, _⟩ => ⟨S2048x128, .i1⟩
  | .hbm, ⟨7, _⟩ => ⟨S3x4x224, .f32⟩
  | .hbm, ⟨8, _⟩ => ⟨S28x224, .f32⟩
  | .hbm, ⟨9, _⟩ => ⟨S224x4, .f32⟩
  | .hbm, ⟨10, _⟩ => ⟨S64x64, .f32⟩
  | .hbm, ⟨11, _⟩ => ⟨S64x224, .f32⟩
  | .hbm, ⟨12, _⟩ => ⟨S2048x3, .f32⟩
  | .hbm, ⟨13, _⟩ => ⟨S2048x128, .f32⟩
  | .hbm, ⟨14, _⟩ => ⟨S2048x1, .f32⟩
  | .local _ .vmem, ⟨0, _⟩ => ⟨S4096x64, .f32⟩
  | .local _ .vmem, ⟨1, _⟩ => ⟨S4096x64, .f32⟩
  | .local _ .vmem, ⟨2, _⟩ => ⟨S4096x3, .f32⟩
  | .local _ .vmem, ⟨3, _⟩ => ⟨S4096x3, .f32⟩
  | .local _ .vmem, ⟨4, _⟩ => ⟨S64x3, .f32⟩
  | .local _ .vmem, ⟨5, _⟩ => ⟨S64x3, .f32⟩
  | .local _ .vmem, ⟨6, _⟩ => ⟨S64x129, .f32⟩
  | .local _ .vmem, ⟨7, _⟩ => ⟨S64x129, .f32⟩
  | .local _ .vmem, ⟨8, _⟩ => ⟨S64x224, .f32⟩
  | .local _ .vmem, ⟨9, _⟩ => ⟨S3x4x224, .f32⟩
  | .local _ .vmem, ⟨10, _⟩ => ⟨S28x224, .f32⟩
  | .local _ .vmem, ⟨11, _⟩ => ⟨S224x4, .f32⟩
  | .local _ .vmem, ⟨12, _⟩ => ⟨S64x64, .f32⟩
  | .local _ .vmem, ⟨13, _⟩ => ⟨S64x3, .f32⟩
  | .local _ .vmem, ⟨14, _⟩ => ⟨S64x3, .f32⟩
  | .local _ .vmem, ⟨15, _⟩ => ⟨S64x128, .f32⟩
  | .local _ .vmem, ⟨16, _⟩ => ⟨S64x128, .f32⟩
  | .local _ .vmem, ⟨17, _⟩ => ⟨S64x1, .f32⟩
  | .local _ .vmem, ⟨18, _⟩ => ⟨S64x1, .f32⟩
  | .local _ .vmem, ⟨19, _⟩ => ⟨S64x64, .f32⟩
  | .local _ .vmem, ⟨20, _⟩ => ⟨S64x64, .f32⟩
  | .local _ .vmem, ⟨21, _⟩ => ⟨S64x64, .f32⟩
  | .local _ .vmem, ⟨22, _⟩ => ⟨S64x64, .f32⟩
  | _, _ => ⟨S2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_cst_1 : Ref sig .tc := ⟨.hbm, 9, rfl⟩
abbrev main_cst_2 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x129 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x224 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x4x224 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S28x224 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S224x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S2048x3 : Shape := ⟨2, ![2048, 3]⟩
abbrev S131072x64 : Shape := ⟨2, ![131072, 64]⟩
abbrev S131072x3 : Shape := ⟨2, ![131072, 3]⟩
abbrev S2048x129 : Shape := ⟨2, ![2048, 129]⟩
abbrev S64x28x8 : Shape := ⟨3, ![64, 28, 8]⟩
abbrev S2048x128 : Shape := ⟨2, ![2048, 128]⟩
abbrev S64x224 : Shape := ⟨2, ![64, 224]⟩
abbrev S131072x224 : Shape := ⟨2, ![131072, 224]⟩
abbrev S131072x28x8 : Shape := ⟨3, ![131072, 28, 8]⟩
abbrev S_ : Shape := ⟨0, ![]⟩
abbrev S131072x1 : Shape := ⟨2, ![131072, 1]⟩
abbrev S131072x8 : Shape := ⟨2, ![131072, 8]⟩
abbrev S131072x28 : Shape := ⟨2, ![131072, 28]⟩
abbrev S131072 : Shape := ⟨1, ![131072]⟩
abbrev S262144 : Shape := ⟨1, ![262144]⟩
abbrev S262144x1 : Shape := ⟨2, ![262144, 1]⟩
abbrev S1 : Shape := ⟨1, ![1]⟩
abbrev S2048 : Shape := ⟨1, ![2048]⟩
abbrev S2048x1 : Shape := ⟨2, ![2048, 1]⟩
abbrev S2048x64 : Shape := ⟨2, ![2048, 64]⟩
abbrev S2048x32 : Shape := ⟨2, ![2048, 32]⟩
abbrev S2048x16 : Shape := ⟨2, ![2048, 16]⟩
abbrev S2048x8 : Shape := ⟨2, ![2048, 8]⟩
abbrev S2048x4 : Shape := ⟨2, ![2048, 4]⟩
abbrev S2048x2 : Shape := ⟨2, ![2048, 2]⟩
abbrev S2048x0 : Shape := ⟨2, ![2048, 0]⟩
abbrev S2048x7 : Shape := ⟨2, ![2048, 7]⟩
abbrev S2048x15 : Shape := ⟨2, ![2048, 15]⟩
abbrev S2048x31 : Shape := ⟨2, ![2048, 31]⟩
abbrev S2048x63 : Shape := ⟨2, ![2048, 63]⟩
abbrev S2048x9 : Shape := ⟨2, ![2048, 9]⟩
abbrev S2048x1x9 : Shape := ⟨3, ![2048, 1, 9]⟩
abbrev S2048x128x9 : Shape := ⟨3, ![2048, 128, 9]⟩
abbrev S262144x9 : Shape := ⟨2, ![262144, 9]⟩
abbrev S131072x9 : Shape := ⟨2, ![131072, 9]⟩
abbrev S131072x1x9 : Shape := ⟨3, ![131072, 1, 9]⟩
abbrev S131072x27 : Shape := ⟨2, ![131072, 27]⟩
abbrev S131072x3x9 : Shape := ⟨3, ![131072, 3, 9]⟩
abbrev S262144x3 : Shape := ⟨2, ![262144, 3]⟩
abbrev S2048x128x3 : Shape := ⟨3, ![2048, 128, 3]⟩
abbrev S2048x128x1 : Shape := ⟨3, ![2048, 128, 1]⟩

abbrev nBuf : Space → Nat
  | .hbm => 417
  | .vmem => 0
  | .smem => 0
  | _ => 0

abbrev hbmTy0_0 (i : Nat) : BufTy := match i % 128 with
  | 0 => ⟨S2048x3, .f32⟩
  | 1 => ⟨S2048x3, .f32⟩
  | 2 => ⟨S131072x64, .f32⟩
  | 3 => ⟨S131072x3, .f32⟩
  | 4 => ⟨S2048x129, .f32⟩
  | 5 => ⟨S64x28x8, .f32⟩
  | 6 => ⟨S2048x128, .i1⟩
  | 7 => ⟨S64x224, .f32⟩
  | 8 => ⟨S131072x224, .f32⟩
  | 9 => ⟨S131072x28x8, .f32⟩
  | 10 => ⟨S_, .f32⟩
  | 11 => ⟨S131072x3, .f32⟩
  | 12 => ⟨S131072x3, .f32⟩
  | 13 => ⟨S_, .f32⟩
  | 14 => ⟨S131072x3, .f32⟩
  | 15 => ⟨S131072x3, .f32⟩
  | 16 => ⟨S131072x3, .f32⟩
  | 17 => ⟨S131072x3, .f32⟩
  | 18 => ⟨S131072x1, .f32⟩
  | 19 => ⟨S131072x1, .f32⟩
  | 20 => ⟨S131072x1, .f32⟩
  | 21 => ⟨S_, .f32⟩
  | 22 => ⟨S131072x1, .f32⟩
  | 23 => ⟨S131072x1, .f32⟩
  | 24 => ⟨S_, .f32⟩
  | 25 => ⟨S131072x1, .f32⟩
  | 26 => ⟨S131072x1, .f32⟩
  | 27 => ⟨S_, .f32⟩
  | 28 => ⟨S131072x1, .f32⟩
  | 29 => ⟨S131072x1, .f32⟩
  | 30 => ⟨S131072x1, .f32⟩
  | 31 => ⟨S131072x1, .f32⟩
  | 32 => ⟨S_, .f32⟩
  | 33 => ⟨S131072x1, .f32⟩
  | 34 => ⟨S131072x1, .f32⟩
  | 35 => ⟨S_, .f32⟩
  | 36 => ⟨S131072x1, .f32⟩
  | 37 => ⟨S131072x1, .f32⟩
  | 38 => ⟨S131072x1, .f32⟩
  | 39 => ⟨S131072x1, .f32⟩
  | 40 => ⟨S_, .f32⟩
  | 41 => ⟨S131072x1, .f32⟩
  | 42 => ⟨S131072x1, .f32⟩
  | 43 => ⟨S_, .f32⟩
  | 44 => ⟨S131072x1, .f32⟩
  | 45 => ⟨S131072x1, .f32⟩
  | 46 => ⟨S131072x1, .f32⟩
  | 47 => ⟨S131072x1, .f32⟩
  | 48 => ⟨S_, .f32⟩
  | 49 => ⟨S131072x1, .f32⟩
  | 50 => ⟨S131072x1, .f32⟩
  | 51 => ⟨S131072x1, .f32⟩
  | 52 => ⟨S131072x1, .f32⟩
  | 53 => ⟨S_, .f32⟩
  | 54 => ⟨S131072x1, .f32⟩
  | 55 => ⟨S131072x1, .f32⟩
  | 56 => ⟨S_, .f32⟩
  | 57 => ⟨S131072x1, .f32⟩
  | 58 => ⟨S131072x1, .f32⟩
  | 59 => ⟨S131072x1, .f32⟩
  | 60 => ⟨S131072x1, .f32⟩
  | 61 => ⟨S_, .f32⟩
  | 62 => ⟨S131072x1, .f32⟩
  | 63 => ⟨S131072x1, .f32⟩
  | 64 => ⟨S131072x1, .f32⟩
  | 65 => ⟨S131072x1, .f32⟩
  | 66 => ⟨S_, .f32⟩
  | 67 => ⟨S131072x1, .f32⟩
  | 68 => ⟨S131072x1, .f32⟩
  | 69 => ⟨S131072x1, .f32⟩
  | 70 => ⟨S131072x1, .f32⟩
  | 71 => ⟨S131072x1, .f32⟩
  | 72 => ⟨S131072x1, .f32⟩
  | 73 => ⟨S131072x8, .f32⟩
  | 74 => ⟨S131072x28, .f32⟩
  | 75 => ⟨S131072x1, .f32⟩
  | 76 => ⟨S131072, .f32⟩
  | 77 => ⟨S262144, .i1⟩
  | 78 => ⟨S262144, .i32⟩
  | 79 => ⟨S_, .i32⟩
  | 80 => ⟨S_, .i32⟩
  | 81 => ⟨S262144, .i32⟩
  | 82 => ⟨S_, .i32⟩
  | 83 => ⟨S131072, .i32⟩
  | 84 => ⟨S_, .i32⟩
  | 85 => ⟨S262144, .i32⟩
  | 86 => ⟨S262144, .i1⟩
  | 87 => ⟨S_, .i32⟩
  | 88 => ⟨S262144, .i32⟩
  | 89 => ⟨S262144, .i32⟩
  | 90 => ⟨S262144, .i32⟩
  | 91 => ⟨S262144x1, .i32⟩
  | 92 => ⟨S_, .i32⟩
  | 93 => ⟨S262144, .i32⟩
  | 94 => ⟨S131072, .i32⟩
  | 95 => ⟨S_, .i32⟩
  | 96 => ⟨S_, .i32⟩
  | 97 => ⟨S131072, .i32⟩
  | 98 => ⟨S_, .i32⟩
  | 99 => ⟨S_, .i32⟩
  | 100 => ⟨S131072, .i32⟩
  | 101 => ⟨S131072, .i32⟩
  | 102 => ⟨S131072, .i32⟩
  | 103 => ⟨S_, .i32⟩
  | 104 => ⟨S131072, .i32⟩
  | 105 => ⟨S131072, .i1⟩
  | 106 => ⟨S131072, .i32⟩
  | 107 => ⟨S131072, .i32⟩
  | 108 => ⟨S_, .i32⟩
  | 109 => ⟨S131072, .i32⟩
  | 110 => ⟨S131072, .i1⟩
  | 111 => ⟨S131072, .i1⟩
  | 112 => ⟨S_, .i32⟩
  | 113 => ⟨S131072, .i32⟩
  | 114 => ⟨S131072, .i32⟩
  | 115 => ⟨S131072, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S131072, .i32⟩
  | 123 => ⟨S131072, .i32⟩
  | 124 => ⟨S_, .i32⟩
  | 125 => ⟨S131072, .i32⟩
  | 126 => ⟨S131072, .i1⟩
  | 127 => ⟨S_, .i32⟩
  | _ => ⟨S2048x3, .f32⟩

abbrev hbmTy0_1 (i : Nat) : BufTy := match i % 128 with
  | 0 => ⟨S131072, .i32⟩
  | 1 => ⟨S131072, .i1⟩
  | 2 => ⟨S_, .i32⟩
  | 3 => ⟨S_, .i1⟩
  | 4 => ⟨S131072, .i1⟩
  | 5 => ⟨S131072, .i1⟩
  | 6 => ⟨S131072, .i1⟩
  | 7 => ⟨S131072, .i32⟩
  | 8 => ⟨S131072, .i32⟩
  | 9 => ⟨S131072, .i32⟩
  | 10 => ⟨S262144, .i32⟩
  | 11 => ⟨S_, .i32⟩
  | 12 => ⟨S_, .i32⟩
  | 13 => ⟨S1, .i32⟩
  | 14 => ⟨S131072, .i32⟩
  | 15 => ⟨S131072, .i32⟩
  | 16 => ⟨S131072, .i1⟩
  | 17 => ⟨S_, .i32⟩
  | 18 => ⟨S_, .i32⟩
  | 19 => ⟨S131072, .i32⟩
  | 20 => ⟨S131072, .i32⟩
  | 21 => ⟨S_, .f32⟩
  | 22 => ⟨S262144, .f32⟩
  | 23 => ⟨S_, .i32⟩
  | 24 => ⟨S131072, .i32⟩
  | 25 => ⟨S131072, .i1⟩
  | 26 => ⟨S_, .i32⟩
  | 27 => ⟨S131072, .i32⟩
  | 28 => ⟨S131072, .i32⟩
  | 29 => ⟨S131072, .i32⟩
  | 30 => ⟨S131072x1, .i32⟩
  | 31 => ⟨S262144, .f32⟩
  | 32 => ⟨S2048x128, .f32⟩
  | 33 => ⟨S_, .f32⟩
  | 34 => ⟨S2048x128, .f32⟩
  | 35 => ⟨S2048x128, .f32⟩
  | 36 => ⟨S2048x3, .f32⟩
  | 37 => ⟨S_, .f32⟩
  | 38 => ⟨S2048, .f32⟩
  | 39 => ⟨S2048x1, .f32⟩
  | 40 => ⟨S2048x1, .f32⟩
  | 41 => ⟨S2048x128, .f32⟩
  | 42 => ⟨S2048x128, .f32⟩
  | 43 => ⟨S2048x128, .f32⟩
  | 44 => ⟨S2048x128, .f32⟩
  | 45 => ⟨S2048x128, .f32⟩
  | 46 => ⟨S2048x128, .f32⟩
  | 47 => ⟨S2048x128, .f32⟩
  | 48 => ⟨S2048x128, .f32⟩
  | 49 => ⟨S_, .f32⟩
  | 50 => ⟨S2048x128, .f32⟩
  | 51 => ⟨S2048x128, .f32⟩
  | 52 => ⟨S_, .f32⟩
  | 53 => ⟨S2048x1, .f32⟩
  | 54 => ⟨S_, .f32⟩
  | 55 => ⟨S2048x128, .f32⟩
  | 56 => ⟨S2048x128, .f32⟩
  | 57 => ⟨S_, .f32⟩
  | 58 => ⟨S2048x128, .f32⟩
  | 59 => ⟨S2048x128, .f32⟩
  | 60 => ⟨S2048x129, .f32⟩
  | 61 => ⟨S2048x128, .f32⟩
  | 62 => ⟨S2048x64, .f32⟩
  | 63 => ⟨S2048x64, .f32⟩
  | 64 => ⟨S2048x64, .f32⟩
  | 65 => ⟨S2048x32, .f32⟩
  | 66 => ⟨S2048x32, .f32⟩
  | 67 => ⟨S2048x32, .f32⟩
  | 68 => ⟨S2048x16, .f32⟩
  | 69 => ⟨S2048x16, .f32⟩
  | 70 => ⟨S2048x16, .f32⟩
  | 71 => ⟨S2048x8, .f32⟩
  | 72 => ⟨S2048x8, .f32⟩
  | 73 => ⟨S2048x8, .f32⟩
  | 74 => ⟨S2048x4, .f32⟩
  | 75 => ⟨S2048x4, .f32⟩
  | 76 => ⟨S2048x4, .f32⟩
  | 77 => ⟨S2048x2, .f32⟩
  | 78 => ⟨S2048x2, .f32⟩
  | 79 => ⟨S2048x2, .f32⟩
  | 80 => ⟨S2048x1, .f32⟩
  | 81 => ⟨S2048x1, .f32⟩
  | 82 => ⟨S2048x1, .f32⟩
  | 83 => ⟨S2048x0, .f32⟩
  | 84 => ⟨S2048x0, .f32⟩
  | 85 => ⟨S2048x0, .f32⟩
  | 86 => ⟨S2048x1, .f32⟩
  | 87 => ⟨S2048x1, .f32⟩
  | 88 => ⟨S_, .f32⟩
  | 89 => ⟨S2048x2, .f32⟩
  | 90 => ⟨S_, .f32⟩
  | 91 => ⟨S2048x2, .f32⟩
  | 92 => ⟨S2048x2, .f32⟩
  | 93 => ⟨S2048x1, .f32⟩
  | 94 => ⟨S2048x1, .f32⟩
  | 95 => ⟨S2048x1, .f32⟩
  | 96 => ⟨S2048x1, .f32⟩
  | 97 => ⟨S2048x2, .f32⟩
  | 98 => ⟨S_, .f32⟩
  | 99 => ⟨S2048x4, .f32⟩
  | 100 => ⟨S_, .f32⟩
  | 101 => ⟨S2048x4, .f32⟩
  | 102 => ⟨S2048x4, .f32⟩
  | 103 => ⟨S2048x3, .f32⟩
  | 104 => ⟨S2048x3, .f32⟩
  | 105 => ⟨S2048x3, .f32⟩
  | 106 => ⟨S2048x1, .f32⟩
  | 107 => ⟨S2048x4, .f32⟩
  | 108 => ⟨S_, .f32⟩
  | 109 => ⟨S2048x8, .f32⟩
  | 110 => ⟨S_, .f32⟩
  | 111 => ⟨S2048x8, .f32⟩
  | 112 => ⟨S2048x8, .f32⟩
  | 113 => ⟨S2048x7, .f32⟩
  | 114 => ⟨S2048x7, .f32⟩
  | 115 => ⟨S2048x7, .f32⟩
  | 116 => ⟨S2048x1, .f32⟩
  | 117 => ⟨S2048x8, .f32⟩
  | 118 => ⟨S_, .f32⟩
  | 119 => ⟨S2048x16, .f32⟩
  | 120 => ⟨S_, .f32⟩
  | 121 => ⟨S2048x16, .f32⟩
  | 122 => ⟨S2048x16, .f32⟩
  | 123 => ⟨S2048x15, .f32⟩
  | 124 => ⟨S2048x15, .f32⟩
  | 125 => ⟨S2048x15, .f32⟩
  | 126 => ⟨S2048x1, .f32⟩
  | 127 => ⟨S2048x16, .f32⟩
  | _ => ⟨S2048x3, .f32⟩

abbrev hbmTy0_2 (i : Nat) : BufTy := match i % 128 with
  | 0 => ⟨S_, .f32⟩
  | 1 => ⟨S2048x32, .f32⟩
  | 2 => ⟨S_, .f32⟩
  | 3 => ⟨S2048x32, .f32⟩
  | 4 => ⟨S2048x32, .f32⟩
  | 5 => ⟨S2048x31, .f32⟩
  | 6 => ⟨S2048x31, .f32⟩
  | 7 => ⟨S2048x31, .f32⟩
  | 8 => ⟨S2048x1, .f32⟩
  | 9 => ⟨S2048x32, .f32⟩
  | 10 => ⟨S_, .f32⟩
  | 11 => ⟨S2048x64, .f32⟩
  | 12 => ⟨S_, .f32⟩
  | 13 => ⟨S2048x64, .f32⟩
  | 14 => ⟨S2048x64, .f32⟩
  | 15 => ⟨S2048x63, .f32⟩
  | 16 => ⟨S2048x63, .f32⟩
  | 17 => ⟨S2048x63, .f32⟩
  | 18 => ⟨S2048x1, .f32⟩
  | 19 => ⟨S2048x64, .f32⟩
  | 20 => ⟨S_, .f32⟩
  | 21 => ⟨S2048x128, .f32⟩
  | 22 => ⟨S_, .f32⟩
  | 23 => ⟨S2048x128, .f32⟩
  | 24 => ⟨S2048x128, .f32⟩
  | 25 => ⟨S2048x128, .f32⟩
  | 26 => ⟨S_, .f32⟩
  | 27 => ⟨S2048x128, .f32⟩
  | 28 => ⟨S2048x128, .i1⟩
  | 29 => ⟨S_, .f32⟩
  | 30 => ⟨S_, .f32⟩
  | 31 => ⟨S2048x128, .f32⟩
  | 32 => ⟨S2048x128, .f32⟩
  | 33 => ⟨S2048x3, .f32⟩
  | 34 => ⟨S_, .f32⟩
  | 35 => ⟨S2048, .f32⟩
  | 36 => ⟨S2048x1, .f32⟩
  | 37 => ⟨S2048x1, .f32⟩
  | 38 => ⟨S_, .f32⟩
  | 39 => ⟨S2048x1, .f32⟩
  | 40 => ⟨S2048x1, .f32⟩
  | 41 => ⟨S2048x3, .f32⟩
  | 42 => ⟨S2048x3, .f32⟩
  | 43 => ⟨S2048x1, .f32⟩
  | 44 => ⟨S2048, .f32⟩
  | 45 => ⟨S2048x1, .f32⟩
  | 46 => ⟨S2048, .f32⟩
  | 47 => ⟨S2048x1, .f32⟩
  | 48 => ⟨S2048, .f32⟩
  | 49 => ⟨S_, .f32⟩
  | 50 => ⟨S2048, .f32⟩
  | 51 => ⟨S_, .f32⟩
  | 52 => ⟨S2048, .f32⟩
  | 53 => ⟨S2048, .f32⟩
  | 54 => ⟨S_, .f32⟩
  | 55 => ⟨S2048, .f32⟩
  | 56 => ⟨S2048, .f32⟩
  | 57 => ⟨S_, .f32⟩
  | 58 => ⟨S2048, .f32⟩
  | 59 => ⟨S2048, .f32⟩
  | 60 => ⟨S_, .f32⟩
  | 61 => ⟨S2048, .f32⟩
  | 62 => ⟨S2048, .f32⟩
  | 63 => ⟨S2048, .f32⟩
  | 64 => ⟨S_, .f32⟩
  | 65 => ⟨S2048, .f32⟩
  | 66 => ⟨S2048, .f32⟩
  | 67 => ⟨S2048, .f32⟩
  | 68 => ⟨S_, .f32⟩
  | 69 => ⟨S2048, .f32⟩
  | 70 => ⟨S2048, .f32⟩
  | 71 => ⟨S2048, .f32⟩
  | 72 => ⟨S2048, .f32⟩
  | 73 => ⟨S2048, .f32⟩
  | 74 => ⟨S2048, .f32⟩
  | 75 => ⟨S2048, .f32⟩
  | 76 => ⟨S_, .f32⟩
  | 77 => ⟨S2048, .f32⟩
  | 78 => ⟨S2048, .f32⟩
  | 79 => ⟨S_, .f32⟩
  | 80 => ⟨S2048, .f32⟩
  | 81 => ⟨S2048, .f32⟩
  | 82 => ⟨S2048, .f32⟩
  | 83 => ⟨S2048, .f32⟩
  | 84 => ⟨S2048, .f32⟩
  | 85 => ⟨S2048, .f32⟩
  | 86 => ⟨S_, .f32⟩
  | 87 => ⟨S2048, .f32⟩
  | 88 => ⟨S2048, .f32⟩
  | 89 => ⟨S2048x1, .f32⟩
  | 90 => ⟨S2048x1, .f32⟩
  | 91 => ⟨S2048x1, .f32⟩
  | 92 => ⟨S2048x1, .f32⟩
  | 93 => ⟨S2048x1, .f32⟩
  | 94 => ⟨S2048x1, .f32⟩
  | 95 => ⟨S2048x1, .f32⟩
  | 96 => ⟨S2048x1, .f32⟩
  | 97 => ⟨S2048x1, .f32⟩
  | 98 => ⟨S2048x9, .f32⟩
  | 99 => ⟨S2048x1x9, .f32⟩
  | 100 => ⟨S2048x128x9, .f32⟩
  | 101 => ⟨S262144x9, .f32⟩
  | 102 => ⟨S_, .i32⟩
  | 103 => ⟨S131072, .i32⟩
  | 104 => ⟨S131072, .i1⟩
  | 105 => ⟨S_, .i32⟩
  | 106 => ⟨S131072, .i32⟩
  | 107 => ⟨S131072, .i32⟩
  | 108 => ⟨S131072, .i32⟩
  | 109 => ⟨S131072x1, .i32⟩
  | 110 => ⟨S131072x9, .f32⟩
  | 111 => ⟨S131072x1x9, .f32⟩
  | 112 => ⟨S131072x27, .f32⟩
  | 113 => ⟨S131072x3x9, .f32⟩
  | 114 => ⟨S131072x3x9, .f32⟩
  | 115 => ⟨S131072x3x9, .f32⟩
  | 116 => ⟨S_, .f32⟩
  | 117 => ⟨S131072x3, .f32⟩
  | 118 => ⟨S_, .f32⟩
  | 119 => ⟨S262144x3, .f32⟩
  | 120 => ⟨S_, .i32⟩
  | 121 => ⟨S131072, .i32⟩
  | 122 => ⟨S131072, .i1⟩
  | 123 => ⟨S_, .i32⟩
  | 124 => ⟨S131072, .i32⟩
  | 125 => ⟨S131072, .i32⟩
  | 126 => ⟨S131072, .i32⟩
  | 127 => ⟨S131072x1, .i32⟩
  | _ => ⟨S2048x3, .f32⟩

abbrev hbmTy0_3 (i : Nat) : BufTy := match i % 128 with
  | 0 => ⟨S262144x3, .f32⟩
  | 1 => ⟨S2048x128x3, .f32⟩
  | 2 => ⟨S2048x128x3, .f32⟩
  | 3 => ⟨S2048x128x3, .f32⟩
  | 4 => ⟨S_, .f32⟩
  | 5 => ⟨S2048x128x3, .f32⟩
  | 6 => ⟨S2048x128x3, .f32⟩
  | 7 => ⟨S_, .f32⟩
  | 8 => ⟨S2048x128x3, .f32⟩
  | 9 => ⟨S2048x128x3, .f32⟩
  | 10 => ⟨S2048x128x1, .f32⟩
  | 11 => ⟨S2048x128x3, .f32⟩
  | 12 => ⟨S2048x128x3, .f32⟩
  | 13 => ⟨S_, .f32⟩
  | 14 => ⟨S2048x3, .f32⟩
  | 15 => ⟨S_, .f32⟩
  | 16 => ⟨S2048, .f32⟩
  | 17 => ⟨S2048x1, .f32⟩
  | 18 => ⟨S_, .f32⟩
  | 19 => ⟨S2048x1, .f32⟩
  | 20 => ⟨S2048x1, .f32⟩
  | 21 => ⟨S2048x3, .f32⟩
  | 22 => ⟨S2048x3, .f32⟩
  | 23 => ⟨S2048x128, .f32⟩
  | 24 => ⟨S2048x128, .f32⟩
  | 25 => ⟨S2048x128, .f32⟩
  | 26 => ⟨S_, .f32⟩
  | 27 => ⟨S2048x128, .f32⟩
  | 28 => ⟨S2048x128, .f32⟩
  | 29 => ⟨S2048x128, .f32⟩
  | 30 => ⟨S_, .f32⟩
  | 31 => ⟨S2048, .f32⟩
  | 32 => ⟨S2048x1, .f32⟩
  | _ => ⟨S2048x3, .f32⟩

abbrev hbmTy (i : Nat) : BufTy := match i / 128 with
  | 0 => hbmTy0_0 i
  | 1 => hbmTy0_1 i
  | 2 => hbmTy0_2 i
  | 3 => hbmTy0_3 i
  | _ => ⟨S2048x3, .f32⟩

abbrev bufTy : (tb : Table) → Fin (tcTables nBuf tb) → BufTy
  | .hbm, ⟨i, _⟩ => hbmTy i
  | _, _ => ⟨S2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_11 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_12 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_call0_v0 : Ref sig .tc := ⟨.hbm, 78, rfl⟩
abbrev main_call0_call0_c : Ref sig .tc := ⟨.hbm, 79, rfl⟩
abbrev main_call0_call0_v0 : Ref sig .tc := ⟨.hbm, 80, rfl⟩
abbrev main_v57 : Ref sig .tc := ⟨.hbm, 81, rfl⟩
abbrev main_c : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_call1_call0_c : Ref sig .tc := ⟨.hbm, 95, rfl⟩
abbrev main_call1_call0_v0 : Ref sig .tc := ⟨.hbm, 96, rfl⟩
abbrev main_v67 : Ref sig .tc := ⟨.hbm, 97, rfl⟩
abbrev main_c_16 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_v6 : Ref sig .tc := ⟨.hbm, 105, rfl⟩
abbrev main_call2_v7 : Ref sig .tc := ⟨.hbm, 106, rfl⟩
abbrev main_call2_v8 : Ref sig .tc := ⟨.hbm, 107, rfl⟩
abbrev main_call2_c : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_c_0 : Ref sig .tc := ⟨.hbm, 112, rfl⟩
abbrev main_call2_v12 : Ref sig .tc := ⟨.hbm, 113, rfl⟩
abbrev main_call2_v13 : Ref sig .tc := ⟨.hbm, 114, rfl⟩
abbrev main_v68 : Ref sig .tc := ⟨.hbm, 115, rfl⟩
abbrev main_c_17 : Ref sig .tc := ⟨.hbm, 116, rfl⟩
abbrev main_call3_v0 : Ref sig .tc := ⟨.hbm, 117, rfl⟩
abbrev main_call3_c : Ref sig .tc := ⟨.hbm, 118, rfl⟩
abbrev main_call3_v1 : Ref sig .tc := ⟨.hbm, 119, rfl⟩
abbrev main_call3_c_0 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_c_1 : Ref sig .tc := ⟨.hbm, 124, rfl⟩
abbrev main_call3_v5 : Ref sig .tc := ⟨.hbm, 125, rfl⟩
abbrev main_call3_v6 : Ref sig .tc := ⟨.hbm, 126, rfl⟩
abbrev main_call3_c_2 : Ref sig .tc := ⟨.hbm, 127, rfl⟩
abbrev main_call3_v7 : Ref sig .tc := ⟨.hbm, 128, rfl⟩
abbrev main_call3_v8 : Ref sig .tc := ⟨.hbm, 129, rfl⟩
abbrev main_call3_c_3 : Ref sig .tc := ⟨.hbm, 130, rfl⟩
abbrev main_call3_v9 : Ref sig .tc := ⟨.hbm, 131, rfl⟩
abbrev main_call3_v10 : Ref sig .tc := ⟨.hbm, 132, rfl⟩
abbrev main_call3_v11 : Ref sig .tc := ⟨.hbm, 133, rfl⟩
abbrev main_call3_v12 : Ref sig .tc := ⟨.hbm, 134, rfl⟩
abbrev main_call3_v13 : Ref sig .tc := ⟨.hbm, 135, rfl⟩
abbrev main_call3_v14 : Ref sig .tc := ⟨.hbm, 136, rfl⟩
abbrev main_v69 : Ref sig .tc := ⟨.hbm, 137, rfl⟩
abbrev main_v70 : Ref sig .tc := ⟨.hbm, 138, rfl⟩
abbrev main_c_18 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_c_19 : Ref sig .tc := ⟨.hbm, 145, rfl⟩
abbrev main_call4_v0 : Ref sig .tc := ⟨.hbm, 146, rfl⟩
abbrev main_call4_v1 : Ref sig .tc := ⟨.hbm, 147, rfl⟩
abbrev main_v76 : Ref sig .tc := ⟨.hbm, 148, rfl⟩
abbrev main_cst_20 : Ref sig .tc := ⟨.hbm, 149, rfl⟩
abbrev main_v77 : Ref sig .tc := ⟨.hbm, 150, rfl⟩
abbrev main_c_21 : Ref sig .tc := ⟨.hbm, 151, rfl⟩
abbrev main_v78 : Ref sig .tc := ⟨.hbm, 152, rfl⟩
abbrev main_v79 : Ref sig .tc := ⟨.hbm, 153, rfl⟩
abbrev main_c_22 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_call5_cst : Ref sig .tc := ⟨.hbm, 161, rfl⟩
abbrev main_call5_v0 : Ref sig .tc := ⟨.hbm, 162, rfl⟩
abbrev main_v86 : Ref sig .tc := ⟨.hbm, 163, rfl⟩
abbrev main_call6_v0 : Ref sig .tc := ⟨.hbm, 164, rfl⟩
abbrev main_call6_cst : Ref sig .tc := ⟨.hbm, 165, rfl⟩
abbrev main_call6_v1 : Ref sig .tc := ⟨.hbm, 166, rfl⟩
abbrev main_call6_v2 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_cst_23 : Ref sig .tc := ⟨.hbm, 177, rfl⟩
abbrev main_v96 : Ref sig .tc := ⟨.hbm, 178, rfl⟩
abbrev main_v97 : Ref sig .tc := ⟨.hbm, 179, rfl⟩
abbrev main_cst_24 : Ref sig .tc := ⟨.hbm, 180, rfl⟩
abbrev main_v98 : Ref sig .tc := ⟨.hbm, 181, rfl⟩
abbrev main_cst_25 : Ref sig .tc := ⟨.hbm, 182, rfl⟩
abbrev main_v99 : Ref sig .tc := ⟨.hbm, 183, rfl⟩
abbrev main_v100 : Ref sig .tc := ⟨.hbm, 184, rfl⟩
abbrev main_cst_26 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_27 : Ref sig .tc := ⟨.hbm, 216, rfl⟩
abbrev main_v131 : Ref sig .tc := ⟨.hbm, 217, rfl⟩
abbrev main_cst_28 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_v138 : Ref sig .tc := ⟨.hbm, 225, rfl⟩
abbrev main_cst_29 : Ref sig .tc := ⟨.hbm, 226, rfl⟩
abbrev main_v139 : Ref sig .tc := ⟨.hbm, 227, rfl⟩
abbrev main_cst_30 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_cst_31 : Ref sig .tc := ⟨.hbm, 236, rfl⟩
abbrev main_v147 : Ref sig .tc := ⟨.hbm, 237, rfl⟩
abbrev main_cst_32 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_cst_33 : Ref sig .tc := ⟨.hbm, 246, rfl⟩
abbrev main_v155 : Ref sig .tc := ⟨.hbm, 247, rfl⟩
abbrev main_cst_34 : Ref sig .tc := ⟨.hbm, 248, rfl⟩
abbrev main_v156 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_cst_35 : Ref sig .tc := ⟨.hbm, 256, rfl⟩
abbrev main_v163 : Ref sig .tc := ⟨.hbm, 257, rfl⟩
abbrev main_cst_36 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_cst_37 : Ref sig .tc := ⟨.hbm, 266, rfl⟩
abbrev main_v171 : Ref sig .tc := ⟨.hbm, 267, rfl⟩
abbrev main_cst_38 : Ref sig .tc := ⟨.hbm, 268, rfl⟩
abbrev main_v172 : Ref sig .tc := ⟨.hbm, 269, rfl⟩
abbrev main_v173 : Ref sig .tc := ⟨.hbm, 270, rfl⟩
abbrev main_v174 : Ref sig .tc := ⟨.hbm, 271, rfl⟩
abbrev main_v175 : Ref sig .tc := ⟨.hbm, 272, rfl⟩
abbrev main_v176 : Ref sig .tc := ⟨.hbm, 273, rfl⟩
abbrev main_v177 : Ref sig .tc := ⟨.hbm, 274, rfl⟩
abbrev main_v178 : Ref sig .tc := ⟨.hbm, 275, rfl⟩
abbrev main_cst_39 : Ref sig .tc := ⟨.hbm, 276, rfl⟩
abbrev main_v179 : Ref sig .tc := ⟨.hbm, 277, rfl⟩
abbrev main_cst_40 : Ref sig .tc := ⟨.hbm, 278, rfl⟩
abbrev main_v180 : Ref sig .tc := ⟨.hbm, 279, rfl⟩
abbrev main_v181 : Ref sig .tc := ⟨.hbm, 280, rfl⟩
abbrev main_v182 : Ref sig .tc := ⟨.hbm, 281, rfl⟩
abbrev main_cst_41 : Ref sig .tc := ⟨.hbm, 282, rfl⟩
abbrev main_v183 : Ref sig .tc := ⟨.hbm, 283, rfl⟩
abbrev main_v184 : Ref sig .tc := ⟨.hbm, 284, rfl⟩
abbrev main_cst_42 : Ref sig .tc := ⟨.hbm, 285, rfl⟩
abbrev main_call7_v0 : Ref sig .tc := ⟨.hbm, 286, rfl⟩
abbrev main_call7_v1 : Ref sig .tc := ⟨.hbm, 287, rfl⟩
abbrev main_v185 : Ref sig .tc := ⟨.hbm, 288, rfl⟩
abbrev main_call8_v0 : Ref sig .tc := ⟨.hbm, 289, rfl⟩
abbrev main_call8_cst : Ref sig .tc := ⟨.hbm, 290, rfl⟩
abbrev main_call8_v1 : Ref sig .tc := ⟨.hbm, 291, rfl⟩
abbrev main_call8_v2 : Ref sig .tc := ⟨.hbm, 292, rfl⟩
abbrev main_v186 : Ref sig .tc := ⟨.hbm, 293, rfl⟩
abbrev main_cst_43 : Ref sig .tc := ⟨.hbm, 294, rfl⟩
abbrev main_v187 : Ref sig .tc := ⟨.hbm, 295, rfl⟩
abbrev main_v188 : Ref sig .tc := ⟨.hbm, 296, rfl⟩
abbrev main_v189 : Ref sig .tc := ⟨.hbm, 297, rfl⟩
abbrev main_v190 : Ref sig .tc := ⟨.hbm, 298, rfl⟩
abbrev main_v191 : Ref sig .tc := ⟨.hbm, 299, rfl⟩
abbrev main_v192 : Ref sig .tc := ⟨.hbm, 300, rfl⟩
abbrev main_v193 : Ref sig .tc := ⟨.hbm, 301, rfl⟩
abbrev main_v194 : Ref sig .tc := ⟨.hbm, 302, rfl⟩
abbrev main_v195 : Ref sig .tc := ⟨.hbm, 303, rfl⟩
abbrev main_v196 : Ref sig .tc := ⟨.hbm, 304, rfl⟩
abbrev main_cst_44 : Ref sig .tc := ⟨.hbm, 305, rfl⟩
abbrev main_v197 : Ref sig .tc := ⟨.hbm, 306, rfl⟩
abbrev main_cst_45 : Ref sig .tc := ⟨.hbm, 307, rfl⟩
abbrev main_v198 : Ref sig .tc := ⟨.hbm, 308, rfl⟩
abbrev main_v199 : Ref sig .tc := ⟨.hbm, 309, rfl⟩
abbrev main_cst_46 : Ref sig .tc := ⟨.hbm, 310, rfl⟩
abbrev main_v200 : Ref sig .tc := ⟨.hbm, 311, rfl⟩
abbrev main_v201 : Ref sig .tc := ⟨.hbm, 312, rfl⟩
abbrev main_cst_47 : Ref sig .tc := ⟨.hbm, 313, rfl⟩
abbrev main_v202 : Ref sig .tc := ⟨.hbm, 314, rfl⟩
abbrev main_v203 : Ref sig .tc := ⟨.hbm, 315, rfl⟩
abbrev main_cst_48 : Ref sig .tc := ⟨.hbm, 316, rfl⟩
abbrev main_v204 : Ref sig .tc := ⟨.hbm, 317, rfl⟩
abbrev main_v205 : Ref sig .tc := ⟨.hbm, 318, rfl⟩
abbrev main_v206 : Ref sig .tc := ⟨.hbm, 319, rfl⟩
abbrev main_cst_49 : Ref sig .tc := ⟨.hbm, 320, rfl⟩
abbrev main_v207 : Ref sig .tc := ⟨.hbm, 321, rfl⟩
abbrev main_v208 : Ref sig .tc := ⟨.hbm, 322, rfl⟩
abbrev main_v209 : Ref sig .tc := ⟨.hbm, 323, rfl⟩
abbrev main_cst_50 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev main_v213 : Ref sig .tc := ⟨.hbm, 328, rfl⟩
abbrev main_v214 : Ref sig .tc := ⟨.hbm, 329, rfl⟩
abbrev main_v215 : Ref sig .tc := ⟨.hbm, 330, rfl⟩
abbrev main_v216 : Ref sig .tc := ⟨.hbm, 331, rfl⟩
abbrev main_cst_51 : Ref sig .tc := ⟨.hbm, 332, rfl⟩
abbrev main_v217 : Ref sig .tc := ⟨.hbm, 333, rfl⟩
abbrev main_v218 : Ref sig .tc := ⟨.hbm, 334, rfl⟩
abbrev main_cst_52 : Ref sig .tc := ⟨.hbm, 335, rfl⟩
abbrev main_v219 : Ref sig .tc := ⟨.hbm, 336, rfl⟩
abbrev main_v220 : Ref sig .tc := ⟨.hbm, 337, rfl⟩
abbrev main_v221 : Ref sig .tc := ⟨.hbm, 338, rfl⟩
abbrev main_v222 : Ref sig .tc := ⟨.hbm, 339, rfl⟩
abbrev main_v223 : Ref sig .tc := ⟨.hbm, 340, rfl⟩
abbrev main_v224 : Ref sig .tc := ⟨.hbm, 341, rfl⟩
abbrev main_cst_53 : Ref sig .tc := ⟨.hbm, 342, rfl⟩
abbrev main_v225 : Ref sig .tc := ⟨.hbm, 343, rfl⟩
abbrev main_v226 : Ref sig .tc := ⟨.hbm, 344, rfl⟩
abbrev main_v227 : Ref sig .tc := ⟨.hbm, 345, rfl⟩
abbrev main_v228 : Ref sig .tc := ⟨.hbm, 346, rfl⟩
abbrev main_v229 : Ref sig .tc := ⟨.hbm, 347, rfl⟩
abbrev main_v230 : Ref sig .tc := ⟨.hbm, 348, rfl⟩
abbrev main_v231 : Ref sig .tc := ⟨.hbm, 349, rfl⟩
abbrev main_v232 : Ref sig .tc := ⟨.hbm, 350, rfl⟩
abbrev main_v233 : Ref sig .tc := ⟨.hbm, 351, rfl⟩
abbrev main_v234 : Ref sig .tc := ⟨.hbm, 352, rfl⟩
abbrev main_v235 : Ref sig .tc := ⟨.hbm, 353, rfl⟩
abbrev main_v236 : Ref sig .tc := ⟨.hbm, 354, rfl⟩
abbrev main_v237 : Ref sig .tc := ⟨.hbm, 355, rfl⟩
abbrev main_v238 : Ref sig .tc := ⟨.hbm, 356, rfl⟩
abbrev main_v239 : Ref sig .tc := ⟨.hbm, 357, rfl⟩
abbrev main_c_54 : Ref sig .tc := ⟨.hbm, 358, rfl⟩
abbrev main_v240 : Ref sig .tc := ⟨.hbm, 359, rfl⟩
abbrev main_v241 : Ref sig .tc := ⟨.hbm, 360, rfl⟩
abbrev main_c_55 : Ref sig .tc := ⟨.hbm, 361, rfl⟩
abbrev main_v242 : Ref sig .tc := ⟨.hbm, 362, rfl⟩
abbrev main_v243 : Ref sig .tc := ⟨.hbm, 363, rfl⟩
abbrev main_v244 : Ref sig .tc := ⟨.hbm, 364, rfl⟩
abbrev main_v245 : Ref sig .tc := ⟨.hbm, 365, rfl⟩
abbrev main_v246 : Ref sig .tc := ⟨.hbm, 366, rfl⟩
abbrev main_v247 : Ref sig .tc := ⟨.hbm, 367, rfl⟩
abbrev main_v248 : Ref sig .tc := ⟨.hbm, 368, rfl⟩
abbrev main_v249 : Ref sig .tc := ⟨.hbm, 369, rfl⟩
abbrev main_v250 : Ref sig .tc := ⟨.hbm, 370, rfl⟩
abbrev main_v251 : Ref sig .tc := ⟨.hbm, 371, rfl⟩
abbrev main_cst_56 : Ref sig .tc := ⟨.hbm, 372, rfl⟩
abbrev main_v252 : Ref sig .tc := ⟨.hbm, 373, rfl⟩
abbrev main_cst_57 : Ref sig .tc := ⟨.hbm, 374, rfl⟩
abbrev main_v253 : Ref sig .tc := ⟨.hbm, 375, rfl⟩
abbrev main_c_58 : Ref sig .tc := ⟨.hbm, 376, rfl⟩
abbrev main_v254 : Ref sig .tc := ⟨.hbm, 377, rfl⟩
abbrev main_v255 : Ref sig .tc := ⟨.hbm, 378, rfl⟩
abbrev main_c_59 : Ref sig .tc := ⟨.hbm, 379, rfl⟩
abbrev main_v256 : Ref sig .tc := ⟨.hbm, 380, rfl⟩
abbrev main_v257 : Ref sig .tc := ⟨.hbm, 381, rfl⟩
abbrev main_v258 : Ref sig .tc := ⟨.hbm, 382, rfl⟩
abbrev main_v259 : Ref sig .tc := ⟨.hbm, 383, rfl⟩
abbrev main_v260 : Ref sig .tc := ⟨.hbm, 384, rfl⟩
abbrev main_v261 : Ref sig .tc := ⟨.hbm, 385, rfl⟩
abbrev main_v262 : Ref sig .tc := ⟨.hbm, 386, rfl⟩
abbrev main_v263 : Ref sig .tc := ⟨.hbm, 387, rfl⟩
abbrev main_cst_60 : Ref sig .tc := ⟨.hbm, 388, rfl⟩
abbrev main_v264 : Ref sig .tc := ⟨.hbm, 389, rfl⟩
abbrev main_v265 : Ref sig .tc := ⟨.hbm, 390, rfl⟩
abbrev main_cst_61 : Ref sig .tc := ⟨.hbm, 391, rfl⟩
abbrev main_v266 : Ref sig .tc := ⟨.hbm, 392, rfl⟩
abbrev main_v267 : Ref sig .tc := ⟨.hbm, 393, rfl⟩
abbrev main_v268 : Ref sig .tc := ⟨.hbm, 394, rfl⟩
abbrev main_v269 : Ref sig .tc := ⟨.hbm, 395, rfl⟩
abbrev main_v270 : Ref sig .tc := ⟨.hbm, 396, rfl⟩
abbrev main_cst_62 : Ref sig .tc := ⟨.hbm, 397, rfl⟩
abbrev main_v271 : Ref sig .tc := ⟨.hbm, 398, rfl⟩
abbrev main_cst_63 : Ref sig .tc := ⟨.hbm, 399, rfl⟩
abbrev main_v272 : Ref sig .tc := ⟨.hbm, 400, rfl⟩
abbrev main_v273 : Ref sig .tc := ⟨.hbm, 401, rfl⟩
abbrev main_cst_64 : Ref sig .tc := ⟨.hbm, 402, rfl⟩
abbrev main_v274 : Ref sig .tc := ⟨.hbm, 403, rfl⟩
abbrev main_v275 : Ref sig .tc := ⟨.hbm, 404, rfl⟩
abbrev main_v276 : Ref sig .tc := ⟨.hbm, 405, rfl⟩
abbrev main_v277 : Ref sig .tc := ⟨.hbm, 406, rfl⟩
abbrev main_v278 : Ref sig .tc := ⟨.hbm, 407, rfl⟩
abbrev main_v279 : Ref sig .tc := ⟨.hbm, 408, rfl⟩
abbrev main_v280 : Ref sig .tc := ⟨.hbm, 409, rfl⟩
abbrev main_cst_65 : Ref sig .tc := ⟨.hbm, 410, rfl⟩
abbrev main_v281 : Ref sig .tc := ⟨.hbm, 411, rfl⟩
abbrev main_v282 : Ref sig .tc := ⟨.hbm, 412, rfl⟩
abbrev main_v283 : Ref sig .tc := ⟨.hbm, 413, rfl⟩
abbrev main_cst_66 : Ref sig .tc := ⟨.hbm, 414, rfl⟩
abbrev main_v284 : Ref sig .tc := ⟨.hbm, 415, rfl⟩
abbrev main_v285 : Ref sig .tc := ⟨.hbm, 416, rfl⟩

abbrev nD : Nat := 1
abbrev τ : Topo := Topo.v7x

variable {F : FTy → Type} [FloatOps F]
-- ==== Proof.KerOut.lean ====
/-
  UNTRUSTED — what one grid point of the kernel leaves in its three output blocks, as terms of the blocks it reads: the value each covering store wrote, the
  loads of whole buffers and the read-backs of the four scratch tables resolved.
-/
module

public import proofs.«01_k».proof.Proof.Gen.KernelIdeal.Value
public import Idealize.ShloMosaic.Lib.Tactic

@[expose] public section

set_option maxRecDepth 65536

noncomputable section

namespace Proofs.KerOut

open Idealize.ShloMosaic Idealize.ShloMosaic.TcCoe Cert.KernelIdeal Cert.KernelIdeal.Gen

variable {F : FTy → Type} [FloatOps F]

theorem hz : (![0, 0] : Fin 2 → Nat) = fun _ => 0 := funext fun a => by fin_cases a <;> rfl

/-- The first axis's coefficients. -/
def slab0 (x5 : Vec F S3x4x224 .f32) : Vec F S1x4x224 .f32 := View.ld x5 (Rect.unit (s := S3x4x224) ![0, 0, 0] S1x4x224.size inb_S3x4x224_S1x4x224_0_0_0)
/-- The second axis's coefficients. -/
def slab1 (x5 : Vec F S3x4x224 .f32) : Vec F S1x4x224 .f32 := View.ld x5 (Rect.unit (s := S3x4x224) ![1, 0, 0] S1x4x224.size inb_S3x4x224_S1x4x224_1_0_0)
/-- The third axis's coefficients. -/
def slab2 (x5 : Vec F S3x4x224 .f32) : Vec F S1x4x224 .f32 := View.ld x5 (Rect.unit (s := S3x4x224) ![2, 0, 0] S1x4x224.size inb_S3x4x224_S1x4x224_2_0_0)

/-- The point's lanes, multiplied out. -/
def lanesOf (x0 : Vec F S4096x64 .f32) (x1 : Vec F S4096x3 .f32) (x2 : Vec F S64x3 .f32) (x4 : Vec F S64x224 .f32) (x5 : Vec F S3x4x224 .f32) (x6 : Vec F S28x224 .f32) : FVec F S4096x224 .f32 :=
  k0_pay5 (k0_pay3 x1 (slab0 x5) (slab1 x5) (slab2 x5) x0 x4) x2 (k0_pay4 x2) x6

variable (c : Dev nD) (i : grid0.Coords) (arg1 : Memref sig .tc .vmem S4096x64 .f32) (harg1 : arg1.IsWhole) (arg2 : Memref sig .tc .vmem S4096x3 .f32) (harg2 : arg2.IsWhole) (arg3 : Memref sig .tc .vmem S64x3 .f32) (harg3 : arg3.IsWhole) (arg4 : Memref sig .tc .vmem S64x129 .f32) (harg4 : arg4.IsWhole) (arg5 : Memref sig .tc .vmem S64x224 .f32) (harg5 : arg5.IsWhole) (arg6 : Memref sig .tc .vmem S3x4x224 .f32) (harg6 : arg6.IsWhole) (arg7 : Memref sig .tc .vmem S28x224 .f32) (harg7 : arg7.IsWhole) (arg8 : Memref sig .tc .vmem S224x4 .f32) (harg8 : arg8.IsWhole) (arg9 : Memref sig .tc .vmem S64x64 .f32) (harg9 : arg9.IsWhole) (arg10 : Memref sig .tc .vmem S64x3 .f32) (harg10 : arg10.IsWhole) (arg11 : Memref sig .tc .vmem S64x128 .f32) (harg11 : arg11.IsWhole) (arg12 : Memref sig .tc .vmem S64x1 .f32) (harg12 : arg12.IsWhole) (arg13 : Memref sig .tc .vmem S64x64 .f32) (harg13 : arg13.IsWhole) (arg14 : Memref sig .tc .vmem S64x64 .f32) (harg14 : arg14.IsWhole) (arg15 : Memref sig .tc .vmem S64x64 .f32) (harg15 : arg15.IsWhole) (arg16 : Memref sig .tc .vmem S64x64 .f32) (harg16 : arg16.IsWhole)
    (x0 : Vec F S4096x64 .f32) (x1 : Vec F S4096x3 .f32) (x2 : Vec F S64x3 .f32) (x3 : Vec F S64x129 .f32) (x4 : Vec F S64x224 .f32) (x5 : Vec F S3x4x224 .f32) (x6 : Vec F S28x224 .f32) (x7 : Vec F S224x4 .f32) (x8 : Vec F S64x64 .f32)

/-- The colour block. -/
theorem out9 : out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
    = (let L := lanesOf x0 x1 x2 x4 x5 x6
       let s := k0_pay11 (k0_pay7 L x7)
       let δ := k0_pay14 x2 x3
       k0_pay1 (k0_pay17 s δ k0_pay15 x8) (k0_pay18 s δ k0_pay15 x8) (k0_pay20 s δ k0_pay15 x8 (k0_pay8 L x7)) (k0_pay21 s δ k0_pay15 x8 (k0_pay9 L x7)) (k0_pay10 L x7)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8)]
  unfold kernelRun0_A
  dsimp only
  sl_unfold_words
  rw [View.canon_unit_zero hz]
  simp only [View.readCov_unit_zero (S := S64x64) _ hz, View.readAt_eq_ld, harg1.read_unread, harg2.read_unread, harg3.read_unread, harg4.read_unread, harg5.read_unread, harg6.read_unread, harg7.read_unread, harg8.read_unread, harg9.read_unread, View.ld_unit_zero (S := S4096x64) hz, View.ld_unit_zero (S := S4096x3) hz, View.ld_unit_zero (S := S64x3) hz, View.ld_unit_zero (S := S64x129) hz, View.ld_unit_zero (S := S64x224) hz, View.ld_unit_zero (S := S28x224) hz, View.ld_unit_zero (S := S224x4) hz, View.ld_unit_zero (S := S64x64) hz]
  rfl

/-- The opacity block. -/
theorem out10 : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
    = (let L := lanesOf x0 x1 x2 x4 x5 x6
       let s := k0_pay11 (k0_pay7 L x7)
       let δ := k0_pay14 x2 x3
       k0_pay2 (k0_pay16 s δ k0_pay15)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8)]
  unfold kernelRun0_A
  dsimp only
  sl_unfold_words
  rw [View.canon_unit_zero hz]
  simp only [View.readCov_unit_zero (S := S64x64) _ hz, View.readAt_eq_ld, harg1.read_unread, harg2.read_unread, harg3.read_unread, harg4.read_unread, harg5.read_unread, harg6.read_unread, harg7.read_unread, harg8.read_unread, harg9.read_unread, View.ld_unit_zero (S := S4096x64) hz, View.ld_unit_zero (S := S4096x3) hz, View.ld_unit_zero (S := S64x3) hz, View.ld_unit_zero (S := S64x129) hz, View.ld_unit_zero (S := S64x224) hz, View.ld_unit_zero (S := S28x224) hz, View.ld_unit_zero (S := S224x4) hz, View.ld_unit_zero (S := S64x64) hz]
  rfl

/-- The depth block. -/
theorem out11 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
    = (let L := lanesOf x0 x1 x2 x4 x5 x6
       let s := k0_pay11 (k0_pay7 L x7)
       let δ := k0_pay14 x2 x3
       k0_pay19 s (k0_pay12 x3) (k0_pay13 x3) δ k0_pay15 x8) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8)]
  unfold kernelRun0_A
  dsimp only
  sl_unfold_words
  rw [View.canon_unit_zero hz]
  simp only [View.readCov_unit_zero (S := S64x64) _ hz, View.readAt_eq_ld, harg1.read_unread, harg2.read_unread, harg3.read_unread, harg4.read_unread, harg5.read_unread, harg6.read_unread, harg7.read_unread, harg8.read_unread, harg9.read_unread, View.ld_unit_zero (S := S4096x64) hz, View.ld_unit_zero (S := S4096x3) hz, View.ld_unit_zero (S := S64x3) hz, View.ld_unit_zero (S := S64x129) hz, View.ld_unit_zero (S := S64x224) hz, View.ld_unit_zero (S := S28x224) hz, View.ld_unit_zero (S := S224x4) hz, View.ld_unit_zero (S := S64x64) hz]
  rfl

end Proofs.KerOut

end
-- ==== Proof.KerOps.lean ====
/-
  UNTRUSTED — the vector operations of the kernel's body read at an index of two coordinates: products of matrices, sums along rows, columns spread over rows,
  columns joined.
-/
module

public import Idealize.ShloMosaic.Lib.MatmulPlain
public import Idealize.ShloMosaic.Lib.Pipeline.Value
public import Idealize.ShloMosaic.Lib.Routing.Ops
public import Idealize.ShloMosaic.Lib.Tactic

@[expose] public section

noncomputable section

namespace Proofs.KerOps

open Idealize.ShloMosaic Idealize.ShloMosaic.ValueIdx Idealize.ShloMosaic.Routing
open scoped BigOperators

/-- A product of matrices, into zeros. -/
theorem mm {M K N : Nat} (d : DotDims (shape2 M K) (shape2 K N) (shape2 M N)) (hd : d = DotDims.plain M K N) (prec : Option ContractPrecision)
    (x : FVec Ideal (shape2 M K) .f32) (y : FVec Ideal (shape2 K N) .f32) (r : Fin M) (c : Fin N) :
    matmul d prec x y (constant (shape2 M N) .f32 0x00000000#32) (ix2 r c) = ∑ k : Fin K, x (ix2 r k) * y (ix2 k c) := by
  subst hd
  refine (Ideal.matmul_plain_apply prec x y _ r c).trans ?_
  have h0 : (constant (F := Ideal) (shape2 M N) .f32 0x00000000#32) (ix2 r c) = (0 : EReal) := Ideal.ofBits_zero_f32
  rw [h0, zero_add]

/-- The sums along the rows. -/
theorem rowSum {M N : Nat} (x : FVec Ideal (shape2 M N) .f32) (h : (shape2 M N).Reduces [1] (shape1 M)) (hφ : FKind.Formats .f32)
    (hacc : (0x00000000#32 : BitVec FTy.f32.bits) = FKind.add.neutral .f32 hφ) (r : Fin M) :
    multiReduction .add [1] (shape1 M) x 0x00000000#32 h hφ hacc (ix1 r) = ∑ k : Fin N, x (ix2 r k) := by
  refine (Ideal.multiReduction_add_single x _ h hφ hacc (ix1 r)).trans ?_
  refine Finset.sum_congr rfl fun k _ => congrArg x ?_
  funext a
  match a with
  | ⟨0, _⟩ => rfl
  | ⟨1, _⟩ => rfl

/-- The sums along the rows, as a column. -/
theorem rowSum_col {M N : Nat} (x : FVec Ideal (shape2 M N) .f32) (h : (shape2 M N).Reduces [1] (shape1 M)) (hφ : FKind.Formats .f32)
    (hacc : (0x00000000#32 : BitVec FTy.f32.bits) = FKind.add.neutral .f32 hφ) (hc : (shape1 M).ShapeCasts (shape2 M 1)) (r : Fin M) (z : Fin 1) :
    shapeCast (shape2 M 1) (multiReduction .add [1] (shape1 M) x 0x00000000#32 h hφ hacc) hc (ix2 r z) = ∑ k : Fin N, x (ix2 r k) :=
  (cast12 _ hc r z r (by omega)).trans (rowSum x h hφ hacc r)

/-- A column spread over rows. -/
theorem spread {α : Type} {M N : Nat} (x : (shape2 M 1).Idx → α) (h : (shape2 M 1).Broadcasts (shape2 M N)) (hM : M ≠ 1) (r : Fin M) (c : Fin N) :
    broadcastTo (shape2 M N) x h (ix2 r c) = x (ix2 r 0) := by
  refine broadcastTo_apply x h _ _ fun a => ?_
  match a with
  | ⟨0, _⟩ => exact (if_neg hM).symm
  | ⟨1, _⟩ => exact (if_pos rfl).symm

/-- A slice of columns. -/
theorem cols {α : Type} {M N n : Nat} (o : Nat) (x : (shape2 M N).Idx → α) (h : (shape2 M N).Slices ![0, o] (shape2 M n)) (r : Fin M) (c : Fin n) (c' : Fin N)
    (hc : c'.val = o + c.val) : extractStridedSlice (shape2 M n) ![0, o] x h (ix2 r c) = x (ix2 r c') := by
  refine extractStridedSlice_apply _ x h _ _ fun a => ?_
  match a with
  | ⟨0, _⟩ => exact (Nat.zero_add _).symm
  | ⟨1, _⟩ => exact hc

/-- A piece of arrays joined along their columns. -/
theorem joined {α : Type} {M N n : Nat} (xs : List ((s : Shape) × (s.Idx → α))) (h : Shape.Concatenates (xs.map (·.1)) (shape2 M N) 1) (k : Nat) (hk : k < xs.length)
    (x : (shape2 M n).Idx → α) (hx : xs[k] = ⟨shape2 M n, x⟩) (o : Nat)
    (ho : (((xs.take k).map (·.1)).map fun s => if h : s.rank = (shape2 M N).rank then s.size ((1 : Fin (shape2 M N).rank).cast h.symm) else 0).sum = o)
    (r : Fin M) (c : Fin N) (c' : Fin n) (hc : o + c'.val = c.val) : concatenate (shape2 M N) 1 xs h (ix2 r c) = x (ix2 r c') := by
  refine concatenate_apply_piece 1 xs h (ix2 r c) k hk (shape2 M n) x hx rfl o ho (ix2 r c') (fun b hb => ?_) hc
  match b with
  | ⟨0, _⟩ => rfl
  | ⟨1, _⟩ => exact absurd rfl hb

end Proofs.KerOps

end
-- ==== Proof.Spec.lean ====
/-
  UNTRUSTED — what the renderer computes, ray by ray and point by point, as plain functions on extended reals: both programs' results are read as these.
-/
module

public import Idealize.ShloMosaic.Lib.Pipeline.Value
public import Idealize.ShloMosaic.Lib.ValueIdx
public import Idealize.ShloMosaic.PureOps.Ideal.Laws

@[expose] public section

noncomputable section

namespace Proofs.Spec

open Idealize.ShloMosaic

/-- The word of 1. -/
abbrev one : EReal := Ideal.ofBits .f32 0x3F800000#32
/-- The word of 0. -/
abbrev zero : EReal := Ideal.ofBits .f32 0x00000000#32

/-- The position inside its voxel of one coordinate of a point. -/
def frac (p : EReal) : EReal :=
  (p * Ideal.ofBits .f32 0x42800000#32 + Ideal.ofBits .f32 0x3727C5AC#32)
    - Ideal.liftRound Int.floor (p * Ideal.ofBits .f32 0x42800000#32 + Ideal.ofBits .f32 0x3727C5AC#32)

/-- The weight of the upper (`true`) or the lower (`false`) end of a unit interval at position `x`. -/
def wt (b : Bool) (x : EReal) : EReal := if b then x else one - x

/-- The trilinear weight of the voxel's corner `k`. -/
def corner (p : Fin 3 → EReal) (k : Fin 8) : EReal :=
  wt (k.val.testBit 2) (frac (p 0)) * wt (k.val.testBit 1) (frac (p 1)) * wt (k.val.testBit 0) (frac (p 2))

/-- The value of channel `c` at corner `k`: the atoms weighted by the point's query. -/
def dat (q : Fin 64 → EReal) (A : Fin 64 → Fin 28 → Fin 8 → EReal) (c : Fin 28) (k : Fin 8) : EReal := ∑ a, q a * A a c k

/-- Channel `c` interpolated at the point. -/
def mix (q : Fin 64 → EReal) (A : Fin 64 → Fin 28 → Fin 8 → EReal) (p : Fin 3 → EReal) (c : Fin 28) : EReal := ∑ k, dat q A c k * corner p k

/-- The length of a ray's direction. -/
def len (d : Fin 3 → EReal) : EReal := Ideal.sqrt (∑ i, d i * d i)

/-- The unit direction. -/
def dir (d : Fin 3 → EReal) (a : Fin 3) : EReal := Ideal.div (d a) (len d + Ideal.ofBits .f32 0x322BCC77#32)

/-- The nine spherical harmonics of a direction. -/
def harm (x y z : EReal) : Fin 9 → EReal := ![
  Ideal.ofBits .f32 0x3E906EBB#32,
  Ideal.ofBits .f32 0xBEFA2A1C#32 * y,
  Ideal.ofBits .f32 0x3EFA2A1C#32 * z,
  Ideal.ofBits .f32 0xBEFA2A1C#32 * x,
  Ideal.ofBits .f32 0x3F8BD8A1#32 * x * y,
  Ideal.ofBits .f32 0xBF8BD8A1#32 * y * z,
  Ideal.ofBits .f32 0x3EA17B01#32 * (Ideal.ofBits .f32 0x40000000#32 * z * z - x * x - y * y),
  Ideal.ofBits .f32 0xBF8BD8A1#32 * x * z,
  Ideal.ofBits .f32 0x3F0BD8A1#32 * (x * x - y * y)]

/-- The spherical harmonics of a ray. -/
def sh (d : Fin 3 → EReal) : Fin 9 → EReal := harm (dir d 0) (dir d 1) (dir d 2)

/-- The channel of colour `c` and harmonic `s`. -/
def chan (c : Fin 3) (s : Fin 9) : Fin 28 := ⟨9 * c.val + s.val, by omega⟩

/-- The density at a point. -/
def sigma (q : Fin 64 → EReal) (A : Fin 64 → Fin 28 → Fin 8 → EReal) (p : Fin 3 → EReal) : EReal := mix q A p 27

/-- The colour logit at a point. -/
def rgb (d : Fin 3 → EReal) (q : Fin 64 → EReal) (A : Fin 64 → Fin 28 → Fin 8 → EReal) (p : Fin 3 → EReal) (c : Fin 3) : EReal :=
  ∑ s, sh d s * mix q A p (chan c s)

/-- The opacity of an interval with density `σ` and length `δ`. -/
def opac (σ δ : EReal) : EReal := one - Ideal.exp (-(max σ zero) * δ)

/-- The length of interval `j` along the ray. -/
def delta (d : Fin 3 → EReal) (t : Fin 129 → EReal) (j : Fin 128) : EReal := (t j.succ - t j.castSucc) * len d

/-- What an interval of opacity `a` lets through. -/
def thru (a : EReal) : EReal := one - a + Ideal.ofBits .f32 0x2EDBE6FF#32

/-- What reaches interval `j` of the first 64. -/
def reach (a : Fin 64 → EReal) (j : Fin 64) : EReal := ∏ k, if k < j then thru (a k) else 1

/-- The light absorbed in an interval, none if it is under the threshold. -/
def cut (x : EReal) : EReal := if Ideal.ofBits .f32 0x38D1B717#32 < x then x else zero

/-- The light absorbed in interval `j`. -/
def keep (a : Fin 64 → EReal) (j : Fin 64) : EReal := cut (a j * reach a j)

/-- The composited colour. -/
def comp (a : Fin 64 → EReal) (c : Fin 64 → EReal) : EReal := (∑ j, keep a j * Ideal.logistic (c j)) + (one - ∑ j, keep a j)

/-- The middle of interval `j`. -/
def mid (t : Fin 129 → EReal) (j : Fin 128) : EReal := Ideal.ofBits .f32 0x3F000000#32 * (t j.succ + t j.castSucc)

/-- The position of an interval of the first half among all. -/
def up (j : Fin 64) : Fin 128 := ⟨j.val, by omega⟩

/-- The composited depth. -/
def depth (a : Fin 64 → EReal) (t : Fin 129 → EReal) : EReal := ∑ j, keep a j * mid t (up j)

/-- The opacities of the first 64 intervals of a ray with the densities `g`. -/
def alphas (g : Fin 64 → EReal) (d : Fin 3 → EReal) (t : Fin 129 → EReal) (j : Fin 64) : EReal := opac (g j) (delta d t (up j))

end Proofs.Spec

end
-- ==== Proof.Algebra.lean ====
/-
  UNTRUSTED — the arithmetic on extended reals the comparison needs: which values are real numbers, sums that may be rearranged because of it, and a
  product that may be taken as the exponential of a sum of logarithms.
-/
module

public import proofs.«01_k».proof.Proof.Spec

@[expose] public section

noncomputable section

namespace Proofs.Algebra

open Idealize.ShloMosaic Proofs.Spec

/-- A value that is a real number. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add a b).symm⟩

theorem IsReal.sub {x y : EReal} : IsReal x → IsReal y → IsReal (x - y) := by
  rintro ⟨a, rfl⟩ ⟨b, rfl⟩; exact ⟨a - b, (EReal.coe_sub a b).symm⟩

theorem IsReal.mul {x y : EReal} : IsReal x → IsReal y → IsReal (x * y) := by
  rintro ⟨a, rfl⟩ ⟨b, rfl⟩; exact ⟨a * b, (EReal.coe_mul a b).symm⟩

/-- A finite sum of real numbers, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩

/-- A number that is neither infinity is real. -/
theorem isReal_of_ne {x : EReal} (h : x ≠ ⊤) (h' : x ≠ ⊥) : IsReal x := ⟨x.toReal, (EReal.coe_toReal h h').symm⟩

/-- A word whose exponent is not all ones stands for a real number. -/
theorem isReal_word (w : BitVec 32) (h : (w.extractLsb' 23 8).toNat ≠ 255) : IsReal (Ideal.ofBits .f32 w) := by
  show IsReal (Ideal.ieee 8 23 w)
  unfold Ideal.ieee
  simp only []
  rw [if_neg (by norm_num; exact h)]
  split
  · exact ⟨_, rfl⟩
  · exact ⟨_, rfl⟩

theorem one_eq : one = 1 := by
  simp [one, Ideal.ofBits, Ideal.ieee, -EReal.coe_mul]
  norm_num

theorem zero_eq : zero = 0 := by
  simp [zero, Ideal.ofBits, Ideal.ieee]

/-- A word with sign bit clear and an exponent neither all ones nor zero stands for a positive real number. -/
theorem pos_word (w : BitVec 32) (h : (w.extractLsb' 23 8).toNat ≠ 255) (h0 : (w.extractLsb' 23 8).toNat ≠ 0) (hs : (w.extractLsb' 31 1 == 1#1) = false) :
    ∃ r : ℝ, 0 < r ∧ Ideal.ofBits .f32 w = (r : EReal) := by
  show ∃ r : ℝ, 0 < r ∧ Ideal.ieee 8 23 w = (r : EReal)
  unfold Ideal.ieee
  simp only []
  rw [if_neg (by norm_num; exact h), if_neg h0, hs]
  exact ⟨_, by simp only [Bool.false_eq_true, if_false]; positivity, rfl⟩

/-- The small constant added to what an interval lets through is a positive real. -/
theorem tiny_eq : ∃ r : ℝ, 0 < r ∧ Ideal.ofBits .f32 0x2EDBE6FF#32 = (r : EReal) := pos_word _ (by decide) (by decide) (by decide)

/-- The small constant added to a ray's length is a positive real. -/
theorem small_eq : ∃ r : ℝ, 0 < r ∧ Ideal.ofBits .f32 0x322BCC77#32 = (r : EReal) := pos_word _ (by decide) (by decide) (by decide)

/-! ## Products as exponentials of sums of logarithms -/

/-- The exponential turns a sum without the lower infinity into a product. -/
theorem exp_add {x y : EReal} (hx : x ≠ ⊥) (hy : y ≠ ⊥) : Ideal.exp (x + y) = Ideal.exp x * Ideal.exp y := by
  induction x using EReal.rec with
  | bot => exact absurd rfl hx
  | top =>
    rw [EReal.top_add_of_ne_bot hy, Ideal.exp_top]
    induction y using EReal.rec with
    | bot => exact absurd rfl hy
    | top => simp
    | coe y => rw [Ideal.exp_coe, EReal.top_mul_coe_of_pos (Real.exp_pos y)]
  | coe x =>
    induction y using EReal.rec with
    | bot => exact absurd rfl hy
    | top => rw [EReal.coe_add_top, Ideal.exp_top, Ideal.exp_coe, EReal.coe_mul_top_of_pos (Real.exp_pos x)]
    | coe y => rw [← EReal.coe_add, Ideal.exp_coe, Ideal.exp_coe, Ideal.exp_coe, ← EReal.coe_mul, Real.exp_add]

/-- The exponential undoes the logarithm of a positive number. -/
theorem exp_log {x : EReal} (hx : 0 < x) : Ideal.exp (Ideal.log x) = x := by
  induction x using EReal.rec with
  | bot => exact absurd hx (by simp)
  | top => rfl
  | coe x =>
    have h : 0 < x := by exact_mod_cast hx
    rw [Ideal.log_coe, if_neg (not_le.mpr h), Ideal.exp_coe, Real.exp_log h]

/-- The logarithm of a positive number is not the lower infinity. -/
theorem log_ne_bot {x : EReal} (hx : 0 < x) : Ideal.log x ≠ ⊥ := by
  intro h
  have := exp_log hx
  rw [h, Ideal.exp_bot] at this
  exact absurd this.symm (ne_of_gt hx)

/-- The exponential of a sum of terms none of which is the lower infinity. -/
theorem exp_sum {ι : Type} (s : Finset ι) (f : ι → EReal) (h : ∀ i, f i ≠ ⊥) :
    (∑ i ∈ s, f i) ≠ ⊥ ∧ Ideal.exp (∑ i ∈ s, f i) = ∏ i ∈ s, Ideal.exp (f i) := by
  classical
  induction s using Finset.induction_on with
  | empty =>
    refine ⟨by simp, ?_⟩
    show Ideal.exp ((0 : ℝ) : EReal) = _
    rw [Ideal.exp_coe, Real.exp_zero]; rfl
  | insert a s ha ih =>
    rw [Finset.sum_insert ha, Finset.prod_insert ha]
    refine ⟨?_, by rw [exp_add (h a) ih.1, ih.2]⟩
    intro e
    rcases EReal.add_eq_bot_iff.mp e with e | e
    · exact h a e
    · exact ih.1 e

/-- The exponential is never negative. -/
theorem exp_nonneg (x : EReal) : 0 ≤ Ideal.exp x := by
  induction x using EReal.rec with
  | bot => exact le_refl _
  | top => exact le_top
  | coe x => rw [Ideal.exp_coe]; exact_mod_cast (Real.exp_pos x).le

/-- What an interval lets through is positive. -/
theorem thru_pos (σ δ : EReal) : 0 < thru (opac σ δ) := by
  obtain ⟨e, he, he'⟩ := tiny_eq
  unfold thru opac
  rw [he', one_eq]
  have h0 := exp_nonneg (-(max σ zero) * δ)
  generalize Ideal.exp (-(max σ zero) * δ) = E at h0
  induction E using EReal.rec with
  | bot => exact absurd h0 (by simp)
  | top =>
    rw [show (1 : EReal) - ⊤ = ⊥ from rfl, show (1 : EReal) - ⊥ = ⊤ from rfl, EReal.top_add_coe]
    exact EReal.zero_lt_top
  | coe x =>
    have hx : 0 ≤ x := by exact_mod_cast h0
    have : (1 : EReal) - (1 - (x : EReal)) + (e : EReal) = ((1 - (1 - x) + e : ℝ) : EReal) := by push_cast; rfl
    rw [this]
    have : (0 : ℝ) < 1 - (1 - x) + e := by linarith
    exact_mod_cast this

/-- Multiplying logarithms by the indicator of the earlier intervals, summing and exponentiating gives what reaches an interval. -/
theorem exp_logs (a : Fin 64 → EReal) (h : ∀ k, 0 < thru (a k)) (u : Fin 64 → Fin 64 → EReal) (hu : ∀ k j, u k j = if k < j then 1 else 0) (j : Fin 64) :
    Ideal.exp (∑ k, Ideal.log (thru (a k)) * u k j) = reach a j := by
  have e : ∀ k, Ideal.log (thru (a k)) * u k j = if k < j then Ideal.log (thru (a k)) else 0 := fun k => by
    rw [hu]; split <;> simp
  rw [Finset.sum_congr rfl fun k _ => e k, (exp_sum _ _ (fun k => by split; exacts [log_ne_bot (h k), by simp])).2]
  unfold reach
  refine Finset.prod_congr rfl fun k _ => ?_
  split
  · exact exp_log (h k)
  · rw [← EReal.coe_zero, Ideal.exp_coe, Real.exp_zero, EReal.coe_one]

/-! ## Real values: directions, harmonics, weights -/

/-- A ray's length is never the lower infinity, and if it is a real number it is not negative and so is every coordinate real. -/
theorem norm_cases (d : Fin 3 → EReal) : len d = ⊤ ∨ ((∀ a, IsReal (d a)) ∧ ∃ r : ℝ, 0 ≤ r ∧ len d = (r : EReal)) := by
  by_cases hd : ∀ a, IsReal (d a)
  · right
    refine ⟨hd, ?_⟩
    choose f hf using hd
    have e : (∑ i, d i * d i) = ((∑ i, f i * f i : ℝ) : EReal) := by
      rw [coe_sum]; exact Finset.sum_congr rfl fun i _ => by rw [hf, EReal.coe_mul]
    unfold len
    rw [e, Ideal.sqrt_coe, if_neg (not_lt.mpr (Finset.sum_nonneg fun i _ => mul_self_nonneg _))]
    exact ⟨_, Real.sqrt_nonneg _, rfl⟩
  · left
    obtain ⟨a, ha⟩ := not_forall.mp hd
    have hsq : ∀ i, 0 ≤ d i * d i := fun i => by
      rcases le_total 0 (d i) with h | h
      · exact mul_nonneg h h
      · exact EReal.mul_nonneg_iff.mpr (Or.inr ⟨h, h⟩)
    have ht : d a * d a = ⊤ := by
      by_cases h1 : d a = ⊤
      · rw [h1]; simp
      · by_cases h2 : d a = ⊥
        · rw [h2]; simp
        · exact absurd (isReal_of_ne h1 h2) ha
    unfold len
    have : (∑ i, d i * d i) = ⊤ := top_le_iff.mp (ht ▸ Finset.single_le_sum (fun i _ => hsq i) (Finset.mem_univ a))
    rw [this]; rfl

/-- Every coordinate of the unit direction is a real number, whatever the ray. -/
theorem dir_real (d : Fin 3 → EReal) (a : Fin 3) : IsReal (dir d a) := by
  obtain ⟨e, he, he'⟩ := small_eq
  unfold dir
  rw [he']
  rcases norm_cases d with h | ⟨hd, r, hr, h⟩
  · rw [h, EReal.top_add_coe]
    unfold Ideal.div
    rw [if_neg (by simp), EReal.inv_top, mul_zero]
    exact ⟨0, rfl⟩
  · rw [h, ← EReal.coe_add, Ideal.div_coe (by positivity)]
    exact (hd a).mul ⟨_, rfl⟩

/-- Every harmonic is a real number. -/
theorem sh_real (d : Fin 3 → EReal) (s : Fin 9) : IsReal (sh d s) := by
  have c0 := isReal_word 0x3E906EBB#32 (by decide)
  have c1 := isReal_word 0xBEFA2A1C#32 (by decide)
  have c2 := isReal_word 0x3EFA2A1C#32 (by decide)
  have c3 := isReal_word 0x3F8BD8A1#32 (by decide)
  have c4 := isReal_word 0xBF8BD8A1#32 (by decide)
  have c5 := isReal_word 0x3EA17B01#32 (by decide)
  have c6 := isReal_word 0x40000000#32 (by decide)
  have c7 := isReal_word 0x3F0BD8A1#32 (by decide)
  have hx := dir_real d 0
  have hy := dir_real d 1
  have hz := dir_real d 2
  unfold sh harm
  fin_cases s
  · exact c0
  · exact c1.mul hy
  · exact c2.mul hz
  · exact c1.mul hx
  · exact (c3.mul hx).mul hy
  · exact (c4.mul hy).mul hz
  · exact c5.mul ((((c6.mul hz).mul hz).sub (hx.mul hx)).sub (hy.mul hy))
  · exact (c4.mul hx).mul hz
  · exact c7.mul ((hx.mul hx).sub (hy.mul hy))

/-- The weights of a point with real coordinates are real numbers. -/
theorem corner_real {p : Fin 3 → EReal} (hp : ∀ a, IsReal (p a)) (k : Fin 8) : IsReal (corner p k) := by
  have hf : ∀ a, IsReal (frac (p a)) := fun a => by
    have h : IsReal (p a * Ideal.ofBits .f32 0x42800000#32 + Ideal.ofBits .f32 0x3727C5AC#32) :=
      ((hp a).mul (isReal_word _ (by decide))).add (isReal_word _ (by decide))
    unfold frac
    refine h.sub ?_
    obtain ⟨r, hr⟩ := h
    rw [hr]
    exact ⟨_, rfl⟩
  have hw : ∀ b a, IsReal (wt b (frac (p a))) := fun b a => by
    unfold wt
    split
    · exact hf a
    · exact (isReal_word _ (by decide)).sub (hf a)
  exact ((hw _ _).mul (hw _ _)).mul (hw _ _)

/-- The corner values of a real point are real numbers. -/
theorem dat_real {q : Fin 64 → EReal} {A : Fin 64 → Fin 28 → Fin 8 → EReal} (hq : ∀ a, IsReal (q a)) (hA : ∀ a c k, IsReal (A a c k)) (c : Fin 28) (k : Fin 8) :
    IsReal (dat q A c k) := IsReal.sum fun a => (hq a).mul (hA a c k)

/-! ## The rearranged sum -/

/-- A real factor moves out of a sum of real numbers. -/
theorem mul_sum {ι : Type} (s : Finset ι) {c : EReal} {f : ι → EReal} (hc : IsReal c) (hf : ∀ i, IsReal (f i)) : c * ∑ i ∈ s, f i = ∑ i ∈ s, c * f i := by
  obtain ⟨c, rfl⟩ := hc
  choose g hg using hf
  have e1 : ∑ i ∈ s, f i = ((∑ i ∈ s, g i : ℝ) : EReal) := by rw [coe_sum]; exact Finset.sum_congr rfl fun i _ => hg i
  have e2 : ∑ i ∈ s, (c : EReal) * f i = ((∑ i ∈ s, c * g i : ℝ) : EReal) := by
    rw [coe_sum]; exact Finset.sum_congr rfl fun i _ => by rw [hg, EReal.coe_mul]
  rw [e1, e2, ← EReal.coe_mul, Finset.mul_sum]

/-- The harmonics, thrice, and a one: the multiplier of each channel. -/
def mult (d : Fin 3 → EReal) (i : Fin 28) : EReal := if i.val < 27 then sh d ⟨i.val % 9, Nat.mod_lt _ (by decide)⟩ else one

theorem mult_real (d : Fin 3 → EReal) (i : Fin 28) : IsReal (mult d i) := by
  unfold mult
  split
  · exact sh_real d _
  · exact isReal_word _ (by decide)

/-- The output a channel goes to. -/
def outOf (i : Fin 28) : Fin 4 := ⟨i.val / 9, by omega⟩

/-- The channels of one output, summed with the multipliers of a ray: all lanes of the point multiplied by an indicator of the output. -/
def lanes (d : Fin 3 → EReal) (q : Fin 64 → EReal) (A : Fin 64 → Fin 28 → Fin 8 → EReal) (p : Fin 3 → EReal) (c : Fin 4) : EReal :=
  ∑ i : Fin 28, ∑ k : Fin 8, dat q A i k * corner p k * mult d i * (if outOf i = c then 1 else 0)

variable {d : Fin 3 → EReal} {q : Fin 64 → EReal} {A : Fin 64 → Fin 28 → Fin 8 → EReal} {p : Fin 3 → EReal}
  (hq : ∀ a, IsReal (q a)) (hA : ∀ a c k, IsReal (A a c k)) (hp : ∀ a, IsReal (p a))
include hq hA hp

/-- The lanes of an output are the multiplied interpolations of its channels. -/
theorem lanes_eq (c : Fin 4) : lanes d q A p c = ∑ i : Fin 28, if outOf i = c then mult d i * mix q A p i else 0 := by
  unfold lanes
  refine Finset.sum_congr rfl fun i _ => ?_
  split
  · unfold mix
    rw [mul_sum _ (mult_real d i) (fun k => (dat_real hq hA i k).mul (corner_real hp k))]
    exact Finset.sum_congr rfl fun k _ => by rw [mul_one, mul_comm]
  · simp

/-- The lanes of the last output are the density. -/
theorem lanes_sigma : lanes d q A p 3 = sigma q A p := by
  rw [lanes_eq hq hA hp, Finset.sum_eq_single (27 : Fin 28)]
  · rw [if_pos (by decide)]
    unfold mult sigma
    rw [if_neg (by decide), one_eq, one_mul]
  · intro i _ hi
    rw [if_neg]
    intro h
    have h' : i.val / 9 = 3 := congrArg Fin.val h
    exact hi (Fin.ext (by show i.val = 27; omega))
  · intro h; exact absurd (Finset.mem_univ _) h

/-- The lanes of a colour are its logit. -/
theorem lanes_rgb (c : Fin 3) : lanes d q A p ⟨c.val, by omega⟩ = rgb d q A p c := by
  rw [lanes_eq hq hA hp, ← Finset.sum_filter]
  unfold rgb
  symm
  refine Finset.sum_bij (fun s _ => chan c s) (fun s _ => ?_) (fun s _ s' _ h => ?_) (fun i hi => ?_) (fun s _ => ?_)
  · rw [Finset.mem_filter]
    exact ⟨Finset.mem_univ _, Fin.ext (by show (9 * c.val + s.val) / 9 = c.val; omega)⟩
  · have h' : 9 * c.val + s.val = 9 * c.val + s'.val := congrArg Fin.val h
    exact Fin.ext (by omega)
  · have h' : i.val / 9 = c.val := congrArg Fin.val (Finset.mem_filter.mp hi).2
    exact ⟨⟨i.val % 9, Nat.mod_lt _ (by decide)⟩, Finset.mem_univ _, Fin.ext (by show 9 * c.val + i.val % 9 = i.val; omega)⟩
  · unfold mult
    rw [if_pos (by show 9 * c.val + s.val < 27; omega)]
    congr 2
    exact Fin.ext (by show s.val = (9 * c.val + s.val) % 9; omega)

end Proofs.Algebra

end
-- ==== Proof.Consts.lean ====
/-
  UNTRUSTED — the kernel's four constant tables in closed form: the weights' coefficients, the spreading of a multiplier over a channel's lanes, the gathering of
  lanes to outputs, and the triangle of earlier intervals.
-/
module

public import proofs.«01_k».proof.Proof.Gen.KernelIdeal

@[expose] public section

set_option maxRecDepth 100000

noncomputable section

namespace Proofs.Consts

open Idealize.ShloMosaic Cert.KernelIdeal

/-- The word of an indicator. -/
def ind (b : Bool) : BitVec 32 := if b then 0x3F800000#32 else 0x00000000#32

/-- The coefficient of input `b` (three positions and a one) in the weight of axis `a` at a lane whose corner bit is `k`. -/
def coef (a b : Nat) (k : Bool) : BitVec 32 :=
  if b = 3 then ind (!k) else if b = a then (if k then 0x3F800000#32 else 0xBF800000#32) else 0x00000000#32

/-- The weights' table. -/
theorem lit0_eq : ∀ i : Fin 2688, lit0 i = coef (i.val / 224 / 4) (i.val / 224 % 4) ((i.val % 224 % 8).testBit (2 - i.val / 224 / 4)) := by
  decide +kernel

/-- The spreading table. -/
theorem lit1_eq : ∀ i : Fin 6272, lit1 i = ind (i.val / 224 == i.val % 224 / 8) := by
  decide +kernel

/-- The gathering table. -/
theorem lit2_eq : ∀ i : Fin 896, lit2 i = ind (i.val / 4 / 8 / 9 == i.val % 4) := by
  decide +kernel

/-- The triangle. -/
theorem lit3_eq : ∀ i : Fin 4096, lit3 i = ind (decide (i.val / 64 < i.val % 64)) := by
  decide +kernel

end Proofs.Consts

end
-- ==== Proof.KerLanes.lean ====
/-
  UNTRUSTED — the lanes of a block of points: the interpolation's terms of every channel, multiplied by the harmonics of the point's ray and gathered to the
  four outputs.
-/
module

public import proofs.«01_k».proof.Proof.KerOut
public import proofs.«01_k».proof.Proof.KerOps
public import proofs.«01_k».proof.Proof.Algebra
public import proofs.«01_k».proof.Proof.Consts

@[expose] public section

set_option maxRecDepth 65536

noncomputable section

namespace Proofs.KerLanes

open Idealize.ShloMosaic Idealize.ShloMosaic.ValueIdx Idealize.ShloMosaic.Routing Cert.KernelIdeal Cert.KernelIdeal.Gen Proofs.KerOps Proofs.KerOut Proofs.Spec
open Proofs.Algebra Proofs.Consts
open scoped BigOperators

/-- Lane of channel `i` at corner `k`. -/
def lane (i : Fin 28) (k : Fin 8) : Fin 224 := ⟨8 * i.val + k.val, by omega⟩

/-- A sum over the lanes, channel by channel. -/
theorem sum_lanes (f : Fin 224 → EReal) : ∑ l, f l = ∑ i : Fin 28, ∑ k : Fin 8, f (lane i k) := by
  rw [← Fintype.sum_prod_type' (f := fun i k => f (lane i k)), ← Equiv.sum_comp (finProdFinEquiv (m := 28) (n := 8)) (fun l => f l)]
  refine Finset.sum_congr rfl fun x _ => congrArg f (Fin.ext ?_)
  show x.2.val + 8 * x.1.val = 8 * x.1.val + x.2.val
  omega

/-- The word of an indicator is 1 or 0. -/
theorem ind_val (b : Bool) : Ideal.ofBits .f32 (ind b) = if b then 1 else 0 := by
  cases b
  · exact zero_eq
  · exact one_eq

/-- The word of -1. -/
theorem neg_one_eq : Ideal.ofBits .f32 0xBF800000#32 = -1 := by
  simp [Ideal.ofBits, Ideal.ieee, -EReal.coe_mul]; norm_num

/-- Three positions and a one, multiplied by the coefficients of an axis: the weight. -/
theorem wt_sum (v : Fin 4 → EReal) (h3 : v 3 = one) (a : Fin 3) (k : Bool) :
    ∑ b : Fin 4, v b * Ideal.ofBits .f32 (coef a.val b.val k) = wt k (v ⟨a.val, by omega⟩) := by
  have e1 : Ideal.ofBits .f32 0x3F800000#32 = 1 := one_eq
  have e0 : Ideal.ofBits .f32 0x00000000#32 = 0 := zero_eq
  rw [Fin.sum_univ_four, h3]
  fin_cases a <;> cases k <;>
    simp [coef, ind, wt, e1, e0, neg_one_eq, one, sub_eq_add_neg, add_comm]

section
variable (x0 : Vec Ideal S4096x64 .f32) (x1 : Vec Ideal S4096x3 .f32) (x2 : Vec Ideal S64x3 .f32) (x4 : Vec Ideal S64x224 .f32)
  (x5 : Vec Ideal S3x4x224 .f32) (x6 : Vec Ideal S28x224 .f32) (x7 : Vec Ideal S224x4 .f32)

/-- The query of a point. -/
def qOf (n : Fin 4096) (a : Fin 64) : EReal := x0 (ix2 n a)
/-- A point. -/
def pOf (n : Fin 4096) (a : Fin 3) : EReal := x1 (ix2 n a)
/-- A ray's direction. -/
def dOf (r : Fin 64) (a : Fin 3) : EReal := x2 (ix2 r a)
/-- The atoms. -/
def aOf (a : Fin 64) (i : Fin 28) (k : Fin 8) : EReal := x4 (ix2 a (lane i k))

/-- The positions inside the voxels, and a one. -/
def fourOf (n : Fin 4096) (b : Fin 4) : EReal := if h : b.val < 3 then frac (x1 (ix2 n ⟨b.val, h⟩)) else one

/-- A position. -/
theorem fourOf_lt (n : Fin 4096) (b : Fin 4) (h : b.val < 3) : fourOf x1 n b = frac (x1 (ix2 n ⟨b.val, h⟩)) := dif_pos h
/-- The one. -/
theorem fourOf_ge (n : Fin 4096) (b : Fin 4) (h : ¬ b.val < 3) : fourOf x1 n b = one := dif_neg h

/-- The weights of an axis. -/
theorem axis_at (h5 : ∀ (a : Fin 3) (b : Fin 4) (l : Fin 224), x5 (ix3 a b l) = Ideal.ofBits .f32 (coef a.val b.val ((l.val % 8).testBit (2 - a.val))))
    (a : Fin 3) (y : FVec Ideal S4096x4 .f32) (n : Fin 4096) (hy : ∀ b, y (ix2 n b) = fourOf x1 n b) (z : Vec Ideal S1x4x224 .f32)
    (hz : ∀ (b : Fin 4) (l : Fin 224), z (ix3 (0 : Fin 1) b l) = x5 (ix3 a b l)) (i : Fin 28) (k : Fin 8) :
    matmul dot_S4096x4_S4x224_S4096x224_1_0_0_1_n_n none y (shapeCast S4x224 z shapeCasts_S1x4x224_S4x224 : FVec Ideal S4x224 .f32) (constant S4096x224 .f32 0x00000000#32) (ix2 n (lane i k))
      = wt (k.val.testBit (2 - a.val)) (frac (x1 (ix2 n a))) := by
  refine (mm dot_S4096x4_S4x224_S4096x224_1_0_0_1_n_n rfl none y _ n (lane i k)).trans ?_
  have hk : (lane i k).val % 8 = k.val := by show (8 * i.val + k.val) % 8 = k.val; omega
  refine (Finset.sum_congr rfl fun b _ => ?_).trans ((wt_sum (fourOf x1 n) (dif_neg (by decide)) a (k.val.testBit (2 - a.val))).trans ?_)
  · rw [hy]
    refine congrArg (fourOf x1 n b * ·) ?_
    refine (shapeCast_apply z _ (ix2 b (lane i k)) (ix3 (0 : Fin 1) b (lane i k)) ?_).trans ((hz b _).trans ((h5 a b _).trans ?_))
    · rw [Shape.rowMajor_val_three, Shape.rowMajor_val_two]
      show (0 * 4 + b.val) * 224 + (lane i k).val = b.val * 224 + (lane i k).val
      omega
    · rw [hk]
  · exact congrArg (wt _) (dif_pos a.isLt)

/-- One slab of the weights' table. -/
theorem slab_at (o : Fin 3) (h : ∀ a : Fin S3x4x224.rank, (![o.val, 0, 0] : Fin 3 → Nat) a + S1x4x224.size a ≤ S3x4x224.size a) (b : Fin 4) (l : Fin 224) :
    View.ld x5 (Rect.unit (s := S3x4x224) ![o.val, 0, 0] S1x4x224.size h) (ix3 (0 : Fin 1) b l) = x5 (ix3 o b l) := by
  refine congrArg x5 (funext fun a => Fin.ext ?_)
  match a with
  | ⟨0, _⟩ => show o.val + 1 * 0 = o.val; omega
  | ⟨1, _⟩ => show 0 + 1 * b.val = b.val; omega
  | ⟨2, _⟩ => show 0 + 1 * l.val = l.val; omega

/-- The interpolation's terms. -/
theorem pay3_at (h5 : ∀ (a : Fin 3) (b : Fin 4) (l : Fin 224), x5 (ix3 a b l) = Ideal.ofBits .f32 (coef a.val b.val ((l.val % 8).testBit (2 - a.val))))
    (n : Fin 4096) (i : Fin 28) (k : Fin 8) :
    k0_pay3 x1 (slab0 x5) (slab1 x5) (slab2 x5) x0 x4 (ix2 n (lane i k)) = dat (qOf x0 n) (aOf x4) i k * corner (pOf x1 n) k := by
  unfold k0_pay3
  rw [mulf_apply, mulf_apply, mulf_apply]
  have hy : ∀ (v6 : FVec Ideal S4096x3 .f32) (v7 : FVec Ideal S4096x1 .f32), (∀ b, v6 (ix2 n b) = frac (x1 (ix2 n b))) → (∀ z, v7 (ix2 n z) = one) → ∀ b : Fin 4,
      concatenate S4096x4 1 [⟨S4096x3, v6⟩, ⟨S4096x1, v7⟩] concatenates_S4096x3_S4096x1_S4096x4_d1 (ix2 n b) = fourOf x1 n b := by
    intro v6 v7 h6 h7 b
    by_cases hb : b.val < 3
    · refine (joined _ _ 0 (by simp) v6 rfl 0 rfl n b ⟨b.val, hb⟩ (Nat.zero_add _)).trans ((h6 _).trans (fourOf_lt x1 n b hb).symm)
    · refine (joined _ _ 1 (by simp) v7 rfl 3 rfl n b 0 (by have := b.isLt; show 3 + 0 = b.val; omega)).trans ((h7 _).trans (fourOf_ge x1 n b hb).symm)
  rw [axis_at x1 x5 h5 0 _ n (hy _ _ (fun b => rfl) (fun z => rfl)) (slab0 x5) (slab_at x5 0 _) i k,
    axis_at x1 x5 h5 1 _ n (hy _ _ (fun b => rfl) (fun z => rfl)) (slab1 x5) (slab_at x5 1 _) i k,
    axis_at x1 x5 h5 2 _ n (hy _ _ (fun b => rfl) (fun z => rfl)) (slab2 x5) (slab_at x5 2 _) i k, shapeCast_self]
  have e := mm dot_S4096x64_S64x224_S4096x224_1_0_0_1_n_n rfl none x0 x4 n (lane i k)
  rw [e]
  unfold corner
  rw [← mul_assoc, ← mul_assoc]
  rfl

/-- The length of a ray, and a little. -/
theorem pay4_at (r : Fin 64) (a : Fin 3) : k0_pay4 x2 (ix2 r a) = len (dOf x2 r) + Ideal.ofBits .f32 0x322BCC77#32 := by
  unfold k0_pay4
  refine (spread _ _ (by decide) r a).trans ?_
  rw [addf_apply]
  refine congrArg (· + _) (congrArg Ideal.sqrt ?_)
  exact rowSum_col _ _ _ _ _ r 0

/-- A ray's harmonics, three times, and a one. -/
theorem harm28_at (x y z : FVec Ideal S64x1 .f32) (v : Fin 9 → FVec Ideal S64x1 .f32) (w : FVec Ideal S64x1 .f32) (r : Fin 64)
    (hv : ∀ s, v s (ix2 r 0) = sh (dOf x2 r) s) (hw : w (ix2 r 0) = one) (i : Fin 28) (v67 : FVec Ideal S64x9 .f32)
    (h67 : v67 = concatenate S64x9 1 [⟨S64x1, v 0⟩, ⟨S64x1, v 1⟩, ⟨S64x1, v 2⟩, ⟨S64x1, v 3⟩, ⟨S64x1, v 4⟩, ⟨S64x1, v 5⟩, ⟨S64x1, v 6⟩, ⟨S64x1, v 7⟩, ⟨S64x1, v 8⟩] concatenates_S64x1_S64x1_S64x1_S64x1_S64x1_S64x1_S64x1_S64x1_S64x1_S64x9_d1) :
    concatenate S64x28 1 [⟨S64x9, v67⟩, ⟨S64x9, v67⟩, ⟨S64x9, v67⟩, ⟨S64x1, w⟩] concatenates_S64x9_S64x9_S64x9_S64x1_S64x28_d1 (ix2 r i) = mult (dOf x2 r) i := by
  have h9 : ∀ s : Fin 9, v67 (ix2 r s) = sh (dOf x2 r) s := by
    intro s
    rw [h67, ← hv s]
    fin_cases s
    · exact joined _ _ 0 (by simp) (v 0) rfl 0 rfl r 0 0 rfl
    · exact joined _ _ 1 (by simp) (v 1) rfl 1 rfl r 1 0 rfl
    · exact joined _ _ 2 (by simp) (v 2) rfl 2 rfl r 2 0 rfl
    · exact joined _ _ 3 (by simp) (v 3) rfl 3 rfl r 3 0 rfl
    · exact joined _ _ 4 (by simp) (v 4) rfl 4 rfl r 4 0 rfl
    · exact joined _ _ 5 (by simp) (v 5) rfl 5 rfl r 5 0 rfl
    · exact joined _ _ 6 (by simp) (v 6) rfl 6 rfl r 6 0 rfl
    · exact joined _ _ 7 (by simp) (v 7) rfl 7 rfl r 7 0 rfl
    · exact joined _ _ 8 (by simp) (v 8) rfl 8 rfl r 8 0 rfl
  have hd := Nat.div_add_mod i.val 9
  have hm : i.val % 9 < 9 := Nat.mod_lt _ (by decide)
  unfold mult
  split
  · rename_i h
    have hq : i.val / 9 = 0 ∨ i.val / 9 = 1 ∨ i.val / 9 = 2 := by omega
    rcases hq with hq | hq | hq
    · exact (joined _ _ 0 (by simp) v67 rfl 0 rfl r i ⟨i.val % 9, hm⟩ (by show 0 + i.val % 9 = i.val; omega)).trans (h9 _)
    · exact (joined _ _ 1 (by simp) v67 rfl 9 rfl r i ⟨i.val % 9, hm⟩ (by show 9 + i.val % 9 = i.val; omega)).trans (h9 _)
    · exact (joined _ _ 2 (by simp) v67 rfl 18 rfl r i ⟨i.val % 9, hm⟩ (by show 18 + i.val % 9 = i.val; omega)).trans (h9 _)
  · rename_i h
    exact (joined _ _ 3 (by simp) w rfl 27 rfl r i 0 (by show 27 + 0 = i.val; omega)).trans hw

/-- The spreading table picks the multiplier of the lane's channel. -/
theorem pick (h6 : ∀ (i : Fin 28) (l : Fin 224), x6 (ix2 i l) = Ideal.ofBits .f32 (ind (i.val == l.val / 8))) (g : Fin 28 → EReal) (i : Fin 28) (k : Fin 8) :
    ∑ b : Fin 28, g b * x6 (ix2 b (lane i k)) = g i := by
  refine (Finset.sum_eq_single i (fun b _ hb => ?_) (fun h => absurd (Finset.mem_univ i) h)).trans ?_
  · rw [h6, ind_val, if_neg (fun h => hb (Fin.ext ?_)), mul_zero]
    have := eq_of_beq h
    have e : (lane i k).val / 8 = i.val := by show (8 * i.val + k.val) / 8 = i.val; omega
    omega
  · rw [h6, ind_val, if_pos, mul_one]
    refine beq_iff_eq.2 ?_
    show i.val = (8 * i.val + k.val) / 8
    omega

/-- The ray's unit direction. -/
theorem dir_at (r : Fin 64) (a : Fin 3) : divf x2 (k0_pay4 x2) (ix2 r a) = dir (dOf x2 r) a := by
  show Ideal.div (x2 (ix2 r a)) (k0_pay4 x2 (ix2 r a)) = _
  rw [pay4_at]
  rfl

/-- The lanes multiplied by the ray's harmonics. -/
theorem pay5_at (h6 : ∀ (i : Fin 28) (l : Fin 224), x6 (ix2 i l) = Ideal.ofBits .f32 (ind (i.val == l.val / 8))) (v : FVec Ideal S4096x224 .f32)
    (r j : Fin 64) (n : Fin 4096) (hn : n.val = r.val * 64 + j.val) (i : Fin 28) (k : Fin 8) :
    k0_pay5 v x2 (k0_pay4 x2) x6 (ix2 n (lane i k)) = v (ix2 n (lane i k)) * mult (dOf x2 r) i := by
  have hx : ∀ z, extractStridedSlice S64x1 ![0, 0] (divf x2 (k0_pay4 x2)) slices_S64x3_o0_0_S64x1 (ix2 r z) = dir (dOf x2 r) 0 :=
    fun z => (cols 0 _ _ r z 0 (by omega)).trans (dir_at x2 r 0)
  have hy : ∀ z, extractStridedSlice S64x1 ![0, 1] (divf x2 (k0_pay4 x2)) slices_S64x3_o0_1_S64x1 (ix2 r z) = dir (dOf x2 r) 1 :=
    fun z => (cols 1 _ _ r z 1 (by omega)).trans (dir_at x2 r 1)
  have hz : ∀ z, extractStridedSlice S64x1 ![0, 2] (divf x2 (k0_pay4 x2)) slices_S64x3_o0_2_S64x1 (ix2 r z) = dir (dOf x2 r) 2 :=
    fun z => (cols 2 _ _ r z 2 (by omega)).trans (dir_at x2 r 2)
  unfold k0_pay5
  generalize extractStridedSlice S64x1 ![0, 0] (divf x2 (k0_pay4 x2)) slices_S64x3_o0_0_S64x1 = X at hx ⊢
  generalize extractStridedSlice S64x1 ![0, 1] (divf x2 (k0_pay4 x2)) slices_S64x3_o0_1_S64x1 = Y at hy ⊢
  generalize extractStridedSlice S64x1 ![0, 2] (divf x2 (k0_pay4 x2)) slices_S64x3_o0_2_S64x1 = Z at hz ⊢
  refine (shapeCast_apply _ _ (ix2 n (lane i k)) (ix3 r j (lane i k)) ?_).trans ?_
  · rw [Shape.rowMajor_val_three, Shape.rowMajor_val_two]
    show (r.val * 64 + j.val) * 224 + (lane i k).val = n.val * 224 + (lane i k).val
    rw [hn]
  rw [mulf_apply]
  refine congrArg₂ (· * ·) ?_ ?_
  · refine shapeCast_apply _ _ _ _ ?_
    rw [Shape.rowMajor_val_three, Shape.rowMajor_val_two]
    show n.val * 224 + (lane i k).val = (r.val * 64 + j.val) * 224 + (lane i k).val
    rw [hn]
  · refine (broadcastTo_apply _ _ (ix3 r j (lane i k)) (ix3 r (0 : Fin 1) (lane i k)) fun a => ?_).trans ?_
    · match a with
      | ⟨0, _⟩ => rfl
      | ⟨1, _⟩ => rfl
      | ⟨2, _⟩ => rfl
    · refine (shapeCast_apply _ _ (ix3 r (0 : Fin 1) (lane i k)) (ix2 r (lane i k)) ?_).trans ?_
      · rw [Shape.rowMajor_val_three, Shape.rowMajor_val_two]
        show r.val * 224 + (lane i k).val = (r.val * 1 + 0) * 224 + (lane i k).val
        omega
      · refine (mm dot_S64x28_S28x224_S64x224_1_0_0_1_n_n rfl none _ x6 r (lane i k)).trans ?_
        refine (Finset.sum_congr rfl fun b _ => congrArg (· * _) ?_).trans (pick x6 h6 (mult (dOf x2 r)) i k)
        refine harm28_at x2 X Y Z ![_, _, _, _, _, _, _, _, _] _ r (fun s => ?_) rfl b _ rfl
        unfold sh harm
        rw [← hx 0, ← hy 0, ← hz 0]
        fin_cases s <;> rfl

/-- The four outputs of a point: its lanes, gathered. -/
theorem pay6_at (h5 : ∀ (a : Fin 3) (b : Fin 4) (l : Fin 224), x5 (ix3 a b l) = Ideal.ofBits .f32 (coef a.val b.val ((l.val % 8).testBit (2 - a.val))))
    (h6 : ∀ (i : Fin 28) (l : Fin 224), x6 (ix2 i l) = Ideal.ofBits .f32 (ind (i.val == l.val / 8)))
    (h7 : ∀ (l : Fin 224) (c : Fin 4), x7 (ix2 l c) = Ideal.ofBits .f32 (ind (l.val / 8 / 9 == c.val)))
    (r j : Fin 64) (n : Fin 4096) (hn : n.val = r.val * 64 + j.val) (c : Fin 4) :
    k0_pay6 (lanesOf x0 x1 x2 x4 x5 x6) x7 (ix2 n c) = lanes (dOf x2 r) (qOf x0 n) (aOf x4) (pOf x1 n) c := by
  unfold k0_pay6 lanesOf
  refine (mm dot_S4096x224_S224x4_S4096x4_1_0_0_1_n_n rfl none _ x7 n c).trans ?_
  rw [sum_lanes]
  unfold lanes
  refine Finset.sum_congr rfl fun i _ => Finset.sum_congr rfl fun k _ => ?_
  rw [pay5_at x2 x6 h6 _ r j n hn i k, pay3_at x0 x1 x4 x5 h5 n i k, h7, ind_val]
  refine congrArg (dat (qOf x0 n) (aOf x4) i k * corner (pOf x1 n) k * mult (dOf x2 r) i * ·) ?_
  have e : (lane i k).val / 8 = i.val := by show (8 * i.val + k.val) / 8 = i.val; omega
  rw [e]
  refine if_congr ?_ rfl rfl
  unfold outOf
  rw [beq_iff_eq, Fin.ext_iff]

/-- A column of the points' outputs, ray by ray. -/
theorem column_at (y : FVec Ideal S4096x4 .f32) (o : Nat) (h : S4096x4.Slices ![0, o] S4096x1) (c : Fin 4) (hc : c.val = o)
    (r j : Fin 64) (n : Fin 4096) (hn : n.val = r.val * 64 + j.val) :
    shapeCast S64x64 (shapeCast S64x64 (shapeCast S4096 (extractStridedSlice S4096x1 ![0, o] y h) shapeCasts_S4096x1_S4096) shapeCasts_S4096_S64x64) shapeCasts_S64x64_S64x64 (ix2 r j)
      = y (ix2 n c) := by
  rw [shapeCast_self]
  refine (cast12 _ shapeCasts_S4096_S64x64 r j n hn).trans ((cast21 _ shapeCasts_S4096x1_S4096 n 0 n ?_).trans (cols o y h n 0 c ?_))
  · show n.val = n.val * 1 + 0; omega
  · show c.val = o + 0; omega

end

end Proofs.KerLanes

end
-- ==== Proof.KerBody.lean ====
/-
  UNTRUSTED — the three blocks one grid point of the kernel writes, read ray by ray: opacities, the light kept in each interval, the composited colour and depth.
-/
module

public import proofs.«01_k».proof.Proof.KerLanes

@[expose] public section

set_option maxRecDepth 65536

noncomputable section

namespace Proofs.KerBody

open Idealize.ShloMosaic Idealize.ShloMosaic.ValueIdx Idealize.ShloMosaic.Routing Cert.KernelIdeal Cert.KernelIdeal.Gen Proofs.KerOps Proofs.KerOut Proofs.Spec
open Proofs.Algebra Proofs.Consts Proofs.KerLanes
open scoped BigOperators

/-- Point `j` of ray `r` of a block. -/
def pt (r j : Fin 64) : Fin 4096 := ⟨r.val * 64 + j.val, by omega⟩

section

variable (x2 : Vec Ideal S64x3 .f32) (x3 : Vec Ideal S64x129 .f32)

/-- The positions where a ray meets the grid. -/
def tOf (r : Fin 64) (j : Fin 129) : EReal := x3 (ix2 r j)

/-- The lower ends of the first 64 intervals. -/
theorem lo_at (r j : Fin 64) : k0_pay12 x3 (ix2 r j) = tOf x3 r (up j).castSucc :=
  cols 0 x3 slices_S64x129_o0_0_S64x64 r j _ (by show j.val = 0 + j.val; omega)

/-- Their upper ends. -/
theorem hi_at (r j : Fin 64) : k0_pay13 x3 (ix2 r j) = tOf x3 r (up j).succ :=
  cols 1 x3 slices_S64x129_o0_1_S64x64 r j _ (by show j.val + 1 = 1 + j.val; omega)

/-- The lengths of the first 64 intervals. -/
theorem delta_at (r j : Fin 64) : k0_pay14 x2 x3 (ix2 r j) = delta (dOf x2 r) (tOf x3 r) (up j) := by
  unfold k0_pay14
  rw [mulf_apply, subf_apply, lo_at, hi_at]
  refine congrArg (fun x : EReal => (tOf x3 r (up j).succ - tOf x3 r (up j).castSucc) * x) ?_
  refine (spread _ _ (by decide) r j).trans (congrArg Ideal.sqrt ?_)
  exact rowSum_col _ _ _ _ _ r 0

end

section

variable (g δ : FVec Ideal S64x64 .f32) (x8 : Vec Ideal S64x64 .f32)

/-- An opacity, from a density and a length. -/
theorem opac_at (r j : Fin 64) : k0_pay16 (k0_pay11 g) δ k0_pay15 (ix2 r j) = opac (g (ix2 r j)) (δ (ix2 r j)) := by
  show Ideal.ofBits .f32 0x3F800000#32 - Ideal.exp ((Ideal.ofBits .f32 0x00000000#32 - max (g (ix2 r j)) (Ideal.ofBits .f32 0x00000000#32)) * δ (ix2 r j)) = _
  have h0 : (Ideal.ofBits .f32 0x00000000#32 : EReal) - max (g (ix2 r j)) (Ideal.ofBits .f32 0x00000000#32) = - max (g (ix2 r j)) (Ideal.ofBits .f32 0x00000000#32) := by
    conv_lhs => rw [show (Ideal.ofBits .f32 0x00000000#32 : EReal) = 0 from zero_eq]
    rw [zero_sub, show (Ideal.ofBits .f32 0x00000000#32 : EReal) = 0 from zero_eq]
  rw [h0]
  rfl

/-- The opacities of a ray. -/
def aRow (r : Fin 64) (j : Fin 64) : EReal := opac (g (ix2 r j)) (δ (ix2 r j))

/-- The light kept in an interval. -/
theorem keep_at (h8 : ∀ k j : Fin 64, x8 (ix2 k j) = Ideal.ofBits .f32 (ind (decide (k.val < j.val)))) (r j : Fin 64) :
    k0_pay17 (k0_pay11 g) δ k0_pay15 x8 (ix2 r j) = keep (aRow g δ r) j := by
  have hs : ∀ x t z : EReal, Scalar.select (Ideal.cmp .ogt x t) x z = if t < x then x else z := fun x t z => WordCmp.select_decide (t < x) x z
  have hr : ∀ Y : FVec Ideal S64x64 .f32, (∀ k, Y (ix2 r k) = thru (aRow g δ r k)) →
      Ideal.exp (matmul (φ₂ := .f32) dot_S64x64_S64x64_S64x64_1_0_0_1_n_n (some .fp32) (log Y) x8 (constant S64x64 .f32 0x00000000#32) (ix2 r j)) = reach (aRow g δ r) j := by
    intro Y hY
    refine (congrArg Ideal.exp ((mm dot_S64x64_S64x64_S64x64_1_0_0_1_n_n rfl (some .fp32) (log Y) x8 r j).trans (Finset.sum_congr rfl fun k _ => ?_))).trans
      (exp_logs (aRow g δ r) (fun k => thru_pos _ _) (fun k j => x8 (ix2 k j)) (fun k j => ?_) j)
    · exact congrArg (fun x : EReal => Ideal.log x * x8 (ix2 k j)) (hY k)
    · rw [h8, ind_val]
      exact if_congr (decide_eq_true_iff) rfl rfl
  have hY : ∀ k, (addf (subf (broadcast S64x64 (Scalar.ofBits .f32 0x3F800000#32)) (k0_pay16 (k0_pay11 g) δ k0_pay15)) (broadcast S64x64 (Scalar.ofBits .f32 0x2EDBE6FF#32)) : FVec Ideal S64x64 .f32) (ix2 r k)
      = thru (aRow g δ r k) := by
    intro k
    rw [addf_apply, subf_apply, opac_at]
    rfl
  have hx : (mulf (k0_pay16 (k0_pay11 g) δ k0_pay15) (exp (matmul (φ₂ := .f32) dot_S64x64_S64x64_S64x64_1_0_0_1_n_n (some .fp32) (log (addf (subf (broadcast S64x64 (Scalar.ofBits .f32 0x3F800000#32)) (k0_pay16 (k0_pay11 g) δ k0_pay15)) (broadcast S64x64 (Scalar.ofBits .f32 0x2EDBE6FF#32)))) x8 (constant S64x64 .f32 0x00000000#32))) : FVec Ideal S64x64 .f32) (ix2 r j)
      = aRow g δ r j * reach (aRow g δ r) j := by
    rw [mulf_apply, opac_at]
    exact congrArg (fun x : EReal => opac (g (ix2 r j)) (δ (ix2 r j)) * x) (hr _ hY)
  unfold k0_pay17
  refine (hs _ _ _).trans ?_
  unfold keep cut
  rw [← hx]
  rfl

/-- The light a ray keeps. -/
theorem kept_at (h8 : ∀ k j : Fin 64, x8 (ix2 k j) = Ideal.ofBits .f32 (ind (decide (k.val < j.val)))) (r : Fin 64) (z : Fin 1) :
    k0_pay18 (k0_pay11 g) δ k0_pay15 x8 (ix2 r z) = ∑ j, keep (aRow g δ r) j :=
  (rowSum_col _ _ _ _ _ r z).trans (Finset.sum_congr rfl fun j _ => keep_at g δ x8 h8 r j)

/-- One colour of a ray, without the background. -/
theorem glow_at (h8 : ∀ k j : Fin 64, x8 (ix2 k j) = Ideal.ofBits .f32 (ind (decide (k.val < j.val)))) (c : FVec Ideal S64x64 .f32) (r : Fin 64) :
    ∑ j : Fin 64, mulf (k0_pay17 (k0_pay11 g) δ k0_pay15 x8) (logistic c) (ix2 r j) = ∑ j, keep (aRow g δ r) j * Ideal.logistic (c (ix2 r j)) := by
  refine Finset.sum_congr rfl fun j _ => ?_
  rw [mulf_apply, keep_at g δ x8 h8 r j]
  rfl

/-- A ray's depth. -/
theorem depth_at (h8 : ∀ k j : Fin 64, x8 (ix2 k j) = Ideal.ofBits .f32 (ind (decide (k.val < j.val)))) (x3 : Vec Ideal S64x129 .f32) (r : Fin 64) (z : Fin 1) :
    k0_pay19 (k0_pay11 g) (k0_pay12 x3) (k0_pay13 x3) δ k0_pay15 x8 (ix2 r z) = depth (aRow g δ r) (tOf x3 r) := by
  refine (rowSum_col _ _ _ _ _ r z).trans (Finset.sum_congr rfl fun j _ => ?_)
  rw [mulf_apply, keep_at g δ x8 h8 r j, mulf_apply, addf_apply, lo_at, hi_at]
  rfl

/-- The colours of a ray. -/
theorem comp_at (h8 : ∀ k j : Fin 64, x8 (ix2 k j) = Ideal.ofBits .f32 (ind (decide (k.val < j.val)))) (c0 c1 c2 : FVec Ideal S64x64 .f32) (C : Fin 3 → FVec Ideal S64x64 .f32)
    (h0 : C 0 = c0) (h1 : C 1 = c1) (h2 : C 2 = c2) (r : Fin 64) (c : Fin 3) :
    k0_pay1 (k0_pay17 (k0_pay11 g) δ k0_pay15 x8) (k0_pay18 (k0_pay11 g) δ k0_pay15 x8) (k0_pay20 (k0_pay11 g) δ k0_pay15 x8 c0) (k0_pay21 (k0_pay11 g) δ k0_pay15 x8 c1) c2 (ix2 r c)
      = comp (aRow g δ r) (fun j => C c (ix2 r j)) := by
  unfold k0_pay1
  rw [addf_apply]
  unfold comp
  refine congrArg₂ (fun x y : EReal => x + y) ?_ ?_
  · fin_cases c
    · refine (joined _ _ 0 (by simp) (k0_pay20 (k0_pay11 g) δ k0_pay15 x8 c0) rfl 0 rfl r 0 0 rfl).trans ?_
      refine (rowSum_col _ _ _ _ _ r 0).trans ?_
      rw [← h0]
      exact glow_at g δ x8 h8 (C 0) r
    · refine (joined _ _ 1 (by simp) (k0_pay21 (k0_pay11 g) δ k0_pay15 x8 c1) rfl 1 rfl r 1 0 rfl).trans ?_
      refine (rowSum_col _ _ _ _ _ r 0).trans ?_
      rw [← h1]
      exact glow_at g δ x8 h8 (C 1) r
    · refine (joined _ _ 2 (by simp) _ rfl 2 rfl r 2 0 rfl).trans ?_
      refine (rowSum_col _ _ _ _ _ r 0).trans ?_
      rw [← h2]
      exact glow_at g δ x8 h8 (C 2) r
  · refine (spread _ _ (by decide) r c).trans ?_
    rw [subf_apply, kept_at g δ x8 h8 r 0]
    rfl

/-- The opacities written: the first 64, then zeros. -/
theorem alpha_at (a : FVec Ideal S64x64 .f32) (r : Fin 64) (j : Fin 128) :
    k0_pay2 a (ix2 r j) = if h : j.val < 64 then a (ix2 r ⟨j.val, h⟩) else zero := by
  unfold k0_pay2
  split
  · rename_i h
    exact joined _ _ 0 (by simp) a rfl 0 rfl r j ⟨j.val, h⟩ (Nat.zero_add _)
  · rename_i h
    exact joined (n := 64) _ _ 1 (by simp) (broadcast S64x64 (Scalar.ofBits .f32 0x00000000#32)) rfl 64 rfl r j ⟨j.val - 64, by omega⟩ (by show 64 + (j.val - 64) = j.val; omega)

end

end Proofs.KerBody

end
-- ==== Proof.KerArrays.lean ====
/-
  UNTRUSTED — the kernel's input blocks in terms of its arguments, and its three result arrays, entry by entry.
-/
module

public import proofs.«01_k».proof.Proof.KerBody
public import Idealize.ShloMosaic.Lib.StableHlo.Run

@[expose] public section

set_option maxRecDepth 65536

noncomputable section

namespace Proofs.KerArrays

open Idealize.ShloMosaic Idealize.ShloMosaic.TcCoe Idealize.ShloMosaic.ValueIdx Idealize.ShloMosaic.Routing Cert.KernelIdeal Cert.KernelIdeal.Gen Proofs.KerOps Proofs.KerOut Proofs.Spec
open Proofs.Algebra Proofs.Consts Proofs.KerLanes Proofs.KerBody
open scoped BigOperators

variable (m : (ℓ : Loc nD τ sig) → Buf (Elt Ideal) ℓ) (c : Dev nD)

/-- Where the blocks of the arrays cut by rays and by points lie. -/
theorem idx_row : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_9.index t 0 = t.val ∧ win0_9.index t 1 = 0) ∧ (win0_10.index t 0 = t.val ∧ win0_10.index t 1 = 0) ∧ (win0_11.index t 0 = t.val ∧ win0_11.index t 1 = 0) :=
  (by decide +kernel : ∀ t : Fin grid0.N, _)

/-- The tables' blocks are whole. -/
theorem idx_table : ∀ t : Fin cfg0.N, (win0_4.index t 0 = 0 ∧ win0_4.index t 1 = 0) ∧ (win0_5.index t 0 = 0 ∧ win0_5.index t 1 = 0 ∧ win0_5.index t 2 = 0)
    ∧ (win0_6.index t 0 = 0 ∧ win0_6.index t 1 = 0) ∧ (win0_7.index t 0 = 0 ∧ win0_7.index t 1 = 0) ∧ (win0_8.index t 0 = 0 ∧ win0_8.index t 1 = 0) :=
  (by decide +kernel : ∀ t : Fin grid0.N, _)

section
variable (v0 : main_cst.ty.Contents (Elt Ideal)) (v1 : main_cst_0.ty.Contents (Elt Ideal)) (v2 : main_cst_1.ty.Contents (Elt Ideal)) (v3 : main_cst_2.ty.Contents (Elt Ideal))
  (W : Valuation τ sig (Elt Ideal))

/-- The operations before the grid, with any four tables. -/
def line : List (HloOp τ sig (Elt Ideal)) :=
  [ StableHlo.nullary main_cst v0, StableHlo.nullary main_cst_0 v1, StableHlo.nullary main_cst_1 v2, StableHlo.nullary main_cst_2 v3,
    StableHlo.reshape main_arg5 main_v0 (rfl : (.f32 : EltTy) = .f32) shapeCasts_S64x28x8_S64x224 ]

/-- They leave each table where it was put. -/
theorem line_tables : StableHlo.after (line v0 v1 v2 v3) W (Proc.devRef .tc main_cst) = v0 ∧ StableHlo.after (line v0 v1 v2 v3) W (Proc.devRef .tc main_cst_0) = v1
    ∧ StableHlo.after (line v0 v1 v2 v3) W (Proc.devRef .tc main_cst_1) = v2 ∧ StableHlo.after (line v0 v1 v2 v3) W (Proc.devRef .tc main_cst_2) = v3 := by
  unfold line
  refine ⟨?_, ?_, ?_, ?_⟩ <;> after_results

/-- They leave the atoms as rows. -/
theorem line_atoms : StableHlo.after (line v0 v1 v2 v3) W (Proc.devRef .tc main_v0)
    = shapeCast S64x224 (W (Proc.devRef .tc main_arg5) : Vec Ideal S64x28x8 .f32) shapeCasts_S64x28x8_S64x224 := by
  unfold line
  after_results
  rfl

end

/-- The weights' table as the grid finds it. -/
theorem V_cst (a : Fin 3) (b : Fin 4) (l : Fin 224) : V m c main_cst (ix3 a b l) = Ideal.ofBits .f32 (coef a.val b.val ((l.val % 8).testBit (2 - a.val))) := by
  refine (congrFun (line_tables _ _ _ _ (fun b => m (c, b))).1 (ix3 a b l)).trans (congrArg (Ideal.ofBits .f32) ((lit0_eq _).trans ?_))
  have e : (S3x4x224.rowMajor (ix3 a b l)).val = (a.val * 4 + b.val) * 224 + l.val := Shape.rowMajor_val_three _
  have e1 : ((a.val * 4 + b.val) * 224 + l.val) / 224 / 4 = a.val := by omega
  have e2 : ((a.val * 4 + b.val) * 224 + l.val) / 224 % 4 = b.val := by omega
  have e3 : ((a.val * 4 + b.val) * 224 + l.val) % 224 = l.val := by omega
  rw [e, e1, e2, e3]

/-- The spreading table. -/
theorem V_cst_0 (i : Fin 28) (l : Fin 224) : V m c main_cst_0 (ix2 i l) = Ideal.ofBits .f32 (ind (i.val == l.val / 8)) := by
  refine (congrFun (line_tables _ _ _ _ (fun b => m (c, b))).2.1 (ix2 i l)).trans (congrArg (Ideal.ofBits .f32) ((lit1_eq _).trans ?_))
  have e : (S28x224.rowMajor (ix2 i l)).val = i.val * 224 + l.val := Shape.rowMajor_val_two _
  have e1 : (i.val * 224 + l.val) / 224 = i.val := by omega
  have e2 : (i.val * 224 + l.val) % 224 = l.val := by omega
  rw [e, e1, e2]

/-- The gathering table. -/
theorem V_cst_1 (l : Fin 224) (d : Fin 4) : V m c main_cst_1 (ix2 l d) = Ideal.ofBits .f32 (ind (l.val / 8 / 9 == d.val)) := by
  refine (congrFun (line_tables _ _ _ _ (fun b => m (c, b))).2.2.1 (ix2 l d)).trans (congrArg (Ideal.ofBits .f32) ((lit2_eq _).trans ?_))
  have e : (S224x4.rowMajor (ix2 l d)).val = l.val * 4 + d.val := Shape.rowMajor_val_two _
  have e1 : (l.val * 4 + d.val) / 4 = l.val := by omega
  have e2 : (l.val * 4 + d.val) % 4 = d.val := by omega
  rw [e, e1, e2]

/-- The triangle. -/
theorem V_cst_2 (k j : Fin 64) : V m c main_cst_2 (ix2 k j) = Ideal.ofBits .f32 (ind (decide (k.val < j.val))) := by
  refine (congrFun (line_tables _ _ _ _ (fun b => m (c, b))).2.2.2 (ix2 k j)).trans (congrArg (Ideal.ofBits .f32) ((lit3_eq _).trans ?_))
  have e : (S64x64.rowMajor (ix2 k j)).val = k.val * 64 + j.val := Shape.rowMajor_val_two _
  have e1 : (k.val * 64 + j.val) / 64 = k.val := by omega
  have e2 : (k.val * 64 + j.val) % 64 = j.val := by omega
  rw [e, e1, e2]

/-- The atoms, as the kernel's rows. -/
theorem V_atoms (a : Fin 64) (i : Fin 28) (k : Fin 8) : V m c main_v0 (ix2 a (lane i k)) = m ((c : Thread nD τ).loc main_arg5) (ix3 a i k) := by
  refine (congrFun (line_atoms _ _ _ _ (fun b => m (c, b))) (ix2 a (lane i k))).trans (shapeCast_apply _ _ _ _ ?_)
  show (S64x28x8.rowMajor (ix3 a i k)).val = (S64x224.rowMajor (ix2 a (lane i k))).val
  rw [Shape.rowMajor_val_three, Shape.rowMajor_val_two]
  show (a.val * 28 + i.val) * 8 + k.val = a.val * 224 + (8 * i.val + k.val)
  omega

section
variable (t : Fin cfg0.N)

/-- The grid has 32 points. -/
theorem lt_points : t.val < 32 := t.isLt.trans_eq N_0

/-- Row `n` of a point's block of points. -/
def ptRow (n : Fin 4096) : Fin 131072 := ⟨t.val * 4096 + n.val, by have := lt_points t; omega⟩
/-- Row `r` of a point's block of rays. -/
def rayRow (r : Fin 64) : Fin 2048 := ⟨t.val * 64 + r.val, by have := lt_points t; omega⟩

/-- The queries of a grid point's block. -/
theorem blk0 (n : Fin 4096) (a : Fin 64) : iblk m c 0 t (ix2 n a) = m ((c : Thread nD τ).loc main_arg2) (ix2 (ptRow t n) a) := by
  rw [← V_main_arg2 m c]
  refine congrArg (V m c main_arg2) (funext fun b => Fin.ext ?_)
  match b with
  | ⟨0, _⟩ => show win0_0.index t 0 * 4096 + 1 * n.val = t.val * 4096 + n.val; rw [(idx_row t).1.1]; omega
  | ⟨1, _⟩ => show win0_0.index t 1 * 64 + 1 * a.val = a.val; rw [(idx_row t).1.2]; omega

/-- The points of a grid point's block. -/
theorem blk1 (n : Fin 4096) (a : Fin 3) : iblk m c 1 t (ix2 n a) = m ((c : Thread nD τ).loc main_arg3) (ix2 (ptRow t n) a) := by
  rw [← V_main_arg3 m c]
  refine congrArg (V m c main_arg3) (funext fun b => Fin.ext ?_)
  match b with
  | ⟨0, _⟩ => show win0_1.index t 0 * 4096 + 1 * n.val = t.val * 4096 + n.val; rw [(idx_row t).2.1.1]; omega
  | ⟨1, _⟩ => show win0_1.index t 1 * 3 + 1 * a.val = a.val; rw [(idx_row t).2.1.2]; omega

/-- The rays of a grid point's block. -/
theorem blk2 (r : Fin 64) (a : Fin 3) : iblk m c 2 t (ix2 r a) = m ((c : Thread nD τ).loc main_arg1) (ix2 (rayRow t r) a) := by
  rw [← V_main_arg1 m c]
  refine congrArg (V m c main_arg1) (funext fun b => Fin.ext ?_)
  match b with
  | ⟨0, _⟩ => show win0_2.index t 0 * 64 + 1 * r.val = t.val * 64 + r.val; rw [(idx_row t).2.2.1.1]; omega
  | ⟨1, _⟩ => show win0_2.index t 1 * 3 + 1 * a.val = a.val; rw [(idx_row t).2.2.1.2]; omega

/-- Where they meet the grid. -/
theorem blk3 (r : Fin 64) (a : Fin 129) : iblk m c 3 t (ix2 r a) = m ((c : Thread nD τ).loc main_arg4) (ix2 (rayRow t r) a) := by
  rw [← V_main_arg4 m c]
  refine congrArg (V m c main_arg4) (funext fun b => Fin.ext ?_)
  match b with
  | ⟨0, _⟩ => show win0_3.index t 0 * 64 + 1 * r.val = t.val * 64 + r.val; rw [(idx_row t).2.2.2.1.1]; omega
  | ⟨1, _⟩ => show win0_3.index t 1 * 129 + 1 * a.val = a.val; rw [(idx_row t).2.2.2.1.2]; omega

/-- The atoms, whole at every grid point. -/
theorem blk4 (a : Fin 64) (i : Fin 28) (k : Fin 8) : iblk m c 4 t (ix2 a (lane i k)) = m ((c : Thread nD τ).loc main_arg5) (ix3 a i k) := by
  rw [← V_atoms m c]
  refine congrArg (V m c main_v0) (funext fun b => Fin.ext ?_)
  match b with
  | ⟨0, _⟩ => show win0_4.index t 0 * 64 + 1 * a.val = a.val; rw [(idx_table t).1.1]; omega
  | ⟨1, _⟩ => show win0_4.index t 1 * 224 + 1 * (lane i k).val = (lane i k).val; rw [(idx_table t).1.2]; omega

/-- The weights' table, whole. -/
theorem blk5 (a : Fin 3) (b : Fin 4) (l : Fin 224) : iblk m c 5 t (ix3 a b l) = Ideal.ofBits .f32 (coef a.val b.val ((l.val % 8).testBit (2 - a.val))) := by
  rw [← V_cst m c]
  refine congrArg (V m c main_cst) (funext fun d => Fin.ext ?_)
  match d with
  | ⟨0, _⟩ => show win0_5.index t 0 * 3 + 1 * a.val = a.val; rw [(idx_table t).2.1.1]; omega
  | ⟨1, _⟩ => show win0_5.index t 1 * 4 + 1 * b.val = b.val; rw [(idx_table t).2.1.2.1]; omega
  | ⟨2, _⟩ => show win0_5.index t 2 * 224 + 1 * l.val = l.val; rw [(idx_table t).2.1.2.2]; omega

/-- The spreading table, whole. -/
theorem blk6 (i : Fin 28) (l : Fin 224) : iblk m c 6 t (ix2 i l) = Ideal.ofBits .f32 (ind (i.val == l.val / 8)) := by
  rw [← V_cst_0 m c]
  refine congrArg (V m c main_cst_0) (funext fun d => Fin.ext ?_)
  match d with
  | ⟨0, _⟩ => show win0_6.index t 0 * 28 + 1 * i.val = i.val; rw [(idx_table t).2.2.1.1]; omega
  | ⟨1, _⟩ => show win0_6.index t 1 * 224 + 1 * l.val = l.val; rw [(idx_table t).2.2.1.2]; omega

/-- The gathering table, whole. -/
theorem blk7 (l : Fin 224) (d : Fin 4) : iblk m c 7 t (ix2 l d) = Ideal.ofBits .f32 (ind (l.val / 8 / 9 == d.val)) := by
  rw [← V_cst_1 m c]
  refine congrArg (V m c main_cst_1) (funext fun b => Fin.ext ?_)
  match b with
  | ⟨0, _⟩ => show win0_7.index t 0 * 224 + 1 * l.val = l.val; rw [(idx_table t).2.2.2.1.1]; omega
  | ⟨1, _⟩ => show win0_7.index t 1 * 4 + 1 * d.val = d.val; rw [(idx_table t).2.2.2.1.2]; omega

/-- The triangle, whole. -/
theorem blk8 (k j : Fin 64) : iblk m c 8 t (ix2 k j) = Ideal.ofBits .f32 (ind (decide (k.val < j.val))) := by
  rw [← V_cst_2 m c]
  refine congrArg (V m c main_cst_2) (funext fun b => Fin.ext ?_)
  match b with
  | ⟨0, _⟩ => show win0_8.index t 0 * 64 + 1 * k.val = k.val; rw [(idx_table t).2.2.2.2.1]; omega
  | ⟨1, _⟩ => show win0_8.index t 1 * 64 + 1 * j.val = j.val; rw [(idx_table t).2.2.2.2.2]; omega

end

end Proofs.KerArrays

end
-- ==== Proof.Scene.lean ====
/-
  UNTRUSTED — the renderer's three results as functions of its argument arrays: the common form to which both programs' results are brought.
-/
module

public import proofs.«01_k».proof.Proof.Spec
public import Idealize.ShloMosaic.Lib.Routing.Shapes

@[expose] public section

noncomputable section

namespace Proofs.Scene

open Idealize.ShloMosaic Idealize.ShloMosaic.ValueIdx Idealize.ShloMosaic.Routing Proofs.Spec
open scoped BigOperators

/-- Point `j` of ray `r`, among all points. -/
def pnt (r : Fin 2048) (j : Fin 64) : Fin 131072 := ⟨r.val * 64 + j.val, by omega⟩

variable (x1 : (shape2 2048 3).Idx → EReal) (x2 : (shape2 131072 64).Idx → EReal) (x3 : (shape2 131072 3).Idx → EReal) (x4 : (shape2 2048 129).Idx → EReal)
  (x5 : (shape3 64 28 8).Idx → EReal)

/-- A ray's direction. -/
def ray (r : Fin 2048) (a : Fin 3) : EReal := x1 (ix2 r a)
/-- A point's query. -/
def query (n : Fin 131072) (a : Fin 64) : EReal := x2 (ix2 n a)
/-- A point. -/
def point (n : Fin 131072) (a : Fin 3) : EReal := x3 (ix2 n a)
/-- Where a ray meets the grid. -/
def meets (r : Fin 2048) (j : Fin 129) : EReal := x4 (ix2 r j)
/-- The atoms. -/
def atoms (a : Fin 64) (i : Fin 28) (k : Fin 8) : EReal := x5 (ix3 a i k)

/-- The densities along a ray. -/
def dens (r : Fin 2048) (j : Fin 64) : EReal := sigma (query x2 (pnt r j)) (atoms x5) (point x3 (pnt r j))
/-- The colours along a ray. -/
def hue (r : Fin 2048) (c : Fin 3) (j : Fin 64) : EReal := rgb (ray x1 r) (query x2 (pnt r j)) (atoms x5) (point x3 (pnt r j)) c
/-- The opacities along a ray. -/
def opacs (r : Fin 2048) : Fin 64 → EReal := alphas (dens x2 x3 x5 r) (ray x1 r) (meets x4 r)

/-- The composited colours. -/
def colour (r : Fin 2048) (c : Fin 3) : EReal := comp (opacs x1 x2 x3 x4 x5 r) (hue x1 x2 x3 x5 r c)
/-- The opacities of all intervals. -/
def alpha (r : Fin 2048) (j : Fin 128) : EReal := if h : j.val < 64 then opacs x1 x2 x3 x4 x5 r ⟨j.val, h⟩ else zero
/-- The composited depths. -/
def range (r : Fin 2048) : EReal := depth (opacs x1 x2 x3 x4 x5 r) (meets x4 r)

end Proofs.Scene

end
-- ==== Proof.KerValue.lean ====
/-
  UNTRUSTED — the kernel's three result arrays are the renderer's results.
-/
module

public import proofs.«01_k».proof.Proof.KerArrays
public import proofs.«01_k».proof.Proof.Scene

@[expose] public section

set_option maxRecDepth 65536

noncomputable section

namespace Proofs.KerValue

open Idealize.ShloMosaic Idealize.ShloMosaic.TcCoe Idealize.ShloMosaic.ValueIdx Idealize.ShloMosaic.Routing Cert.KernelIdeal Cert.KernelIdeal.Gen Proofs.KerOps Proofs.KerOut Proofs.Spec
open Proofs.Algebra Proofs.Consts Proofs.KerLanes Proofs.KerBody Proofs.KerArrays Proofs.Scene
open scoped BigOperators

variable (m : (ℓ : Loc nD τ sig) → Buf (Elt Ideal) ℓ) (c : Dev nD)

/-- The rays' directions. -/
def X1 : (shape2 2048 3).Idx → EReal := m ((c : Thread nD τ).loc main_arg1)
/-- The queries. -/
def X2 : (shape2 131072 64).Idx → EReal := m ((c : Thread nD τ).loc main_arg2)
/-- The points. -/
def X3 : (shape2 131072 3).Idx → EReal := m ((c : Thread nD τ).loc main_arg3)
/-- Where the rays meet the grid. -/
def X4 : (shape2 2048 129).Idx → EReal := m ((c : Thread nD τ).loc main_arg4)
/-- The atoms. -/
def X5 : (shape3 64 28 8).Idx → EReal := m ((c : Thread nD τ).loc main_arg5)

variable (t : Fin cfg0.N)

/-- The block's lanes. -/
def L : FVec Ideal S4096x224 .f32 := lanesOf (iblk m c 0 t) (iblk m c 1 t) (iblk m c 2 t) (iblk m c 4 t) (iblk m c 5 t) (iblk m c 6 t)

/-- A point of a block of rays is a point of the ray. -/
theorem row_pt (r j : Fin 64) : ptRow t (pt r j) = pnt (rayRow t r) j :=
  Fin.ext (by show t.val * 4096 + (r.val * 64 + j.val) = (t.val * 64 + r.val) * 64 + j.val; omega)

/-- The block's directions. -/
theorem d_eq (r : Fin 64) : dOf (iblk m c 2 t) r = ray (X1 m c) (rayRow t r) := funext fun a => blk2 m c t r a
/-- The block's meeting positions. -/
theorem t_eq (r : Fin 64) : tOf (iblk m c 3 t) r = meets (X4 m c) (rayRow t r) := funext fun a => blk3 m c t r a
/-- The block's queries. -/
theorem q_eq (r j : Fin 64) : qOf (iblk m c 0 t) (pt r j) = query (X2 m c) (pnt (rayRow t r) j) := funext fun a => by
  rw [← row_pt]; exact blk0 m c t _ a
/-- The block's points. -/
theorem p_eq (r j : Fin 64) : pOf (iblk m c 1 t) (pt r j) = point (X3 m c) (pnt (rayRow t r) j) := funext fun a => by
  rw [← row_pt]; exact blk1 m c t _ a
/-- The atoms. -/
theorem a_eq : aOf (iblk m c 4 t) = atoms (X5 m c) := funext fun a => funext fun i => funext fun k => blk4 m c t a i k

variable (h2 : ∀ i, IsReal (X2 m c i)) (h3 : ∀ i, IsReal (X3 m c i)) (h5 : ∀ i, IsReal (X5 m c i))

/-- The four outputs of a point. -/
theorem out_at (r j : Fin 64) (o : Fin 4) : k0_pay6 (L m c t) (iblk m c 7 t) (ix2 (pt r j) o)
    = lanes (ray (X1 m c) (rayRow t r)) (query (X2 m c) (pnt (rayRow t r) j)) (atoms (X5 m c)) (point (X3 m c) (pnt (rayRow t r) j)) o := by
  rw [← d_eq m c t, ← q_eq m c t, ← p_eq m c t, ← a_eq m c t]
  exact pay6_at (iblk m c 0 t) (iblk m c 1 t) (iblk m c 2 t) (iblk m c 4 t) (iblk m c 5 t) (iblk m c 6 t) (iblk m c 7 t) (blk5 m c t) (blk6 m c t) (blk7 m c t) r j (pt r j) rfl o

include h2 h3 h5

/-- The densities of a block. -/
theorem dens_at (r j : Fin 64) : k0_pay7 (L m c t) (iblk m c 7 t) (ix2 r j) = dens (X2 m c) (X3 m c) (X5 m c) (rayRow t r) j :=
  (column_at _ 3 slices_S4096x4_o0_3_S4096x1 3 rfl r j (pt r j) rfl).trans ((out_at m c t r j 3).trans
    (lanes_sigma (fun a => h2 _) (fun a i k => h5 _) (fun a => h3 _)))

/-- The first colour. -/
theorem red_at (r j : Fin 64) : k0_pay8 (L m c t) (iblk m c 7 t) (ix2 r j) = hue (X1 m c) (X2 m c) (X3 m c) (X5 m c) (rayRow t r) 0 j :=
  (column_at _ 0 slices_S4096x4_o0_0_S4096x1 0 rfl r j (pt r j) rfl).trans ((out_at m c t r j 0).trans
    (lanes_rgb (fun a => h2 _) (fun a i k => h5 _) (fun a => h3 _) 0))

/-- The second. -/
theorem green_at (r j : Fin 64) : k0_pay9 (L m c t) (iblk m c 7 t) (ix2 r j) = hue (X1 m c) (X2 m c) (X3 m c) (X5 m c) (rayRow t r) 1 j :=
  (column_at _ 1 slices_S4096x4_o0_1_S4096x1 1 rfl r j (pt r j) rfl).trans ((out_at m c t r j 1).trans
    (lanes_rgb (fun a => h2 _) (fun a i k => h5 _) (fun a => h3 _) 1))

/-- The third. -/
theorem blue_at (r j : Fin 64) : k0_pay10 (L m c t) (iblk m c 7 t) (ix2 r j) = hue (X1 m c) (X2 m c) (X3 m c) (X5 m c) (rayRow t r) 2 j :=
  (column_at _ 2 slices_S4096x4_o0_2_S4096x1 2 rfl r j (pt r j) rfl).trans ((out_at m c t r j 2).trans
    (lanes_rgb (fun a => h2 _) (fun a i k => h5 _) (fun a => h3 _) 2))

/-- The opacities of a block's ray. -/
theorem row_at (r : Fin 64) : aRow (k0_pay7 (L m c t) (iblk m c 7 t)) (k0_pay14 (iblk m c 2 t) (iblk m c 3 t)) r
    = opacs (X1 m c) (X2 m c) (X3 m c) (X4 m c) (X5 m c) (rayRow t r) := by
  funext j
  unfold aRow opacs alphas
  rw [dens_at m c t h2 h3 h5 r j, delta_at, d_eq, t_eq]

/-- The colour block. -/
theorem block9 (r : Fin 64) (ch : Fin 3) : (dats m 0 c).flushed 9 t (ix2 r ch) = colour (X1 m c) (X2 m c) (X3 m c) (X4 m c) (X5 m c) (rayRow t r) ch := by
  rw [Value.flushed9_A, out9]
  refine (comp_at _ _ (iblk m c 8 t) (blk8 m c t) _ _ _ ![k0_pay8 (L m c t) (iblk m c 7 t), k0_pay9 (L m c t) (iblk m c 7 t), k0_pay10 (L m c t) (iblk m c 7 t)] rfl rfl rfl r ch).trans ?_
  unfold colour
  refine congrArg₂ comp (row_at m c t h2 h3 h5 r) (funext fun j => ?_)
  fin_cases ch
  · exact red_at m c t h2 h3 h5 r j
  · exact green_at m c t h2 h3 h5 r j
  · exact blue_at m c t h2 h3 h5 r j

/-- The opacity block. -/
theorem block10 (r : Fin 64) (j : Fin 128) : (dats m 0 c).flushed 10 t (ix2 r j) = alpha (X1 m c) (X2 m c) (X3 m c) (X4 m c) (X5 m c) (rayRow t r) j := by
  rw [Value.flushed10_A, out10]
  refine (alpha_at _ r j).trans ?_
  unfold alpha
  split
  · rw [opac_at, ← row_at m c t h2 h3 h5 r]
    rfl
  · rfl

/-- The depth block. -/
theorem block11 (r : Fin 64) (z : Fin 1) : (dats m 0 c).flushed 11 t (ix2 r z) = range (X1 m c) (X2 m c) (X3 m c) (X4 m c) (X5 m c) (rayRow t r) := by
  rw [Value.flushed11_A, out11]
  refine (depth_at _ _ (iblk m c 8 t) (blk8 m c t) (iblk m c 3 t) r z).trans ?_
  unfold range
  rw [t_eq]
  exact congrArg (fun a => depth a _) (row_at m c t h2 h3 h5 r)

omit t in
/-- Every ray lies in a grid point's block. -/
theorem at_row (R : Fin 2048) : ∃ (t : Fin cfg0.N) (r : Fin 64), rayRow t r = R := by
  have hN : cfg0.N = 32 := N_0
  exact ⟨⟨R.val / 64, by omega⟩, ⟨R.val % 64, Nat.mod_lt _ (by decide)⟩, Fin.ext (by show R.val / 64 * 64 + R.val % 64 = R.val; omega)⟩

omit t in
/-- The colours. -/
theorem final9 (R : Fin 2048) (ch : Fin 3) : (dats m 0 c).arrAt 9 cfg0.N (ix2 R ch) = colour (X1 m c) (X2 m c) (X3 m c) (X4 m c) (X5 m c) R ch := by
  obtain ⟨t, r, rfl⟩ := at_row m c h2 h3 h5 R
  rw [← block9 m c t h2 h3 h5 r ch, ← Value.blocks9 m c t (flush0_9 t)]
  refine congrArg ((dats m 0 c).arrAt 9 cfg0.N) (funext fun b => Fin.ext ?_)
  match b with
  | ⟨0, _⟩ => show t.val * 64 + r.val = win0_9.index t 0 * 64 + 1 * r.val; rw [(idx_row t).2.2.2.2.1.1]; omega
  | ⟨1, _⟩ => show ch.val = win0_9.index t 1 * 3 + 1 * ch.val; rw [(idx_row t).2.2.2.2.1.2]; omega

omit t in
/-- The opacities. -/
theorem final10 (R : Fin 2048) (j : Fin 128) : (dats m 0 c).arrAt 10 cfg0.N (ix2 R j) = alpha (X1 m c) (X2 m c) (X3 m c) (X4 m c) (X5 m c) R j := by
  obtain ⟨t, r, rfl⟩ := at_row m c h2 h3 h5 R
  rw [← block10 m c t h2 h3 h5 r j, ← Value.blocks10 m c t (flush0_10 t)]
  refine congrArg ((dats m 0 c).arrAt 10 cfg0.N) (funext fun b => Fin.ext ?_)
  match b with
  | ⟨0, _⟩ => show t.val * 64 + r.val = win0_10.index t 0 * 64 + 1 * r.val; rw [(idx_row t).2.2.2.2.2.1.1]; omega
  | ⟨1, _⟩ => show j.val = win0_10.index t 1 * 128 + 1 * j.val; rw [(idx_row t).2.2.2.2.2.1.2]; omega

omit t in
/-- The depths. -/
theorem final11 (R : Fin 2048) (z : Fin 1) : (dats m 0 c).arrAt 11 cfg0.N (ix2 R z) = range (X1 m c) (X2 m c) (X3 m c) (X4 m c) (X5 m c) R := by
  obtain ⟨t, r, rfl⟩ := at_row m c h2 h3 h5 R
  rw [← block11 m c t h2 h3 h5 r z, ← Value.blocks11 m c t (flush0_11 t)]
  refine congrArg ((dats m 0 c).arrAt 11 cfg0.N) (funext fun b => Fin.ext ?_)
  match b with
  | ⟨0, _⟩ => show t.val * 64 + r.val = win0_11.index t 0 * 64 + 1 * r.val; rw [(idx_row t).2.2.2.2.2.2.1]; omega
  | ⟨1, _⟩ => show z.val = win0_11.index t 1 * 1 + 1 * z.val; rw [(idx_row t).2.2.2.2.2.2.2]; omega

end Proofs.KerValue

end
-- ==== Proof.RefMix.lean ====
/-
  UNTRUSTED — the reference's interpolation: every channel at every point is the trilinear mixture of the atoms weighted by the point's query.
-/
module

public import proofs.«01_k».proof.Proof.KerOps
public import proofs.«01_k».proof.Proof.Scene
public import proofs.«01_k».proof.Proof.Gen.ReferenceIdeal.Read

@[expose] public section

noncomputable section

namespace Proofs.RefMix

open Idealize.ShloMosaic Idealize.ShloMosaic.ValueIdx Idealize.ShloMosaic.Routing Cert.ReferenceIdeal Cert.ReferenceIdeal.Gen Cert.ReferenceIdeal.Read
open Proofs.KerOps Proofs.Spec Proofs.Scene
open scoped BigOperators

variable (x2 : (⟨S131072x64, .f32⟩ : BufTy).Contents (Elt Ideal))
  (x3 : (⟨S131072x3, .f32⟩ : BufTy).Contents (Elt Ideal)) (x5 : (⟨S64x28x8, .f32⟩ : BufTy).Contents (Elt Ideal))

/-- The position inside the voxel. -/
theorem v8_at (n : Fin 131072) (a : Fin 3) : val_main_v8 (F := Ideal) x3 (ix2 n a) = frac (point x3 n a) := rfl

/-- The first coordinate's position. -/
theorem v9_at (n : Fin 131072) (z : Fin 1) : val_main_v9 (F := Ideal) x3 (ix2 n z) = frac (point x3 n 0) :=
  (cols 0 _ _ n z 0 (by omega)).trans (v8_at x3 n 0)
/-- The second coordinate's position. -/
theorem v10_at (n : Fin 131072) (z : Fin 1) : val_main_v10 (F := Ideal) x3 (ix2 n z) = frac (point x3 n 1) :=
  (cols 1 _ _ n z 1 (by omega)).trans (v8_at x3 n 1)
/-- The third coordinate's position. -/
theorem v11_at (n : Fin 131072) (z : Fin 1) : val_main_v11 (F := Ideal) x3 (ix2 n z) = frac (point x3 n 2) :=
  (cols 2 _ _ n z 2 (by omega)).trans (v8_at x3 n 2)

/-- A product of three factors, factor by factor. -/
theorem three {a b c a' b' c' : EReal} (h : a = a') (h' : b = b') (h'' : c = c') : a * b * c = a' * b' * c' := by rw [h, h', h'']

/-- The weights of the eight corners. -/
theorem v52_at (n : Fin 131072) (k : Fin 8) : val_main_v52 (F := Ideal) x3 (ix2 n k) = corner (point x3 n) k := by
  have a0 := v9_at x3 n 0
  have b0 := v10_at x3 n 0
  have c0 := v11_at x3 n 0
  have a1 := congrArg (fun x : EReal => one - x) a0
  have b1 := congrArg (fun x : EReal => one - x) b0
  have c1 := congrArg (fun x : EReal => one - x) c0
  unfold val_main_v52
  fin_cases k
  · exact (joined _ _ 0 (by simp) (val_main_v19 (F := Ideal) x3) rfl 0 rfl n 0 0 rfl).trans (three a1 b1 c1)
  · exact (joined _ _ 1 (by simp) (val_main_v25 (F := Ideal) x3) rfl 1 rfl n 1 0 rfl).trans (three a1 b1 c0)
  · exact (joined _ _ 2 (by simp) (val_main_v31 (F := Ideal) x3) rfl 2 rfl n 2 0 rfl).trans (three a1 b0 c1)
  · exact (joined _ _ 3 (by simp) (val_main_v35 (F := Ideal) x3) rfl 3 rfl n 3 0 rfl).trans (three a1 b0 c0)
  · exact (joined _ _ 4 (by simp) (val_main_v41 (F := Ideal) x3) rfl 4 rfl n 4 0 rfl).trans (three a0 b1 c1)
  · exact (joined _ _ 5 (by simp) (val_main_v45 (F := Ideal) x3) rfl 5 rfl n 5 0 rfl).trans (three a0 b1 c0)
  · exact (joined _ _ 6 (by simp) (val_main_v49 (F := Ideal) x3) rfl 6 rfl n 6 0 rfl).trans (three a0 b0 c1)
  · exact (joined _ _ 7 (by simp) (val_main_v51 (F := Ideal) x3) rfl 7 rfl n 7 0 rfl).trans (three a0 b0 c0)

/-- The atoms weighted by a point's query. -/
theorem v2_at (n : Fin 131072) (i : Fin 28) (k : Fin 8) : val_main_v2 (F := Ideal) x2 x5 (ix3 n i k) = dat (query x2 n) (atoms x5) i k := by
  have hl : 8 * i.val + k.val < 224 := by omega
  have e : val_main_v2 (F := Ideal) x2 x5 (ix3 n i k) = val_main_v1 (F := Ideal) x2 x5 (ix2 n (⟨8 * i.val + k.val, hl⟩ : Fin 224)) := by
    refine shapeCast_apply _ _ _ _ ?_
    rw [Shape.rowMajor_val_three, Shape.rowMajor_val_two]
    show n.val * 224 + (8 * i.val + k.val) = (n.val * 28 + i.val) * 8 + k.val
    omega
  rw [e, val_main_v1_apply]
  refine Finset.sum_congr rfl fun a _ => ?_
  rw [show lidx_main_v1 (ix2 n (⟨8 * i.val + k.val, hl⟩ : Fin 224)) a = ix2 n a from eq_ix2 _,
    show ridx_main_v1 (ix2 n (⟨8 * i.val + k.val, hl⟩ : Fin 224)) a = ix2 a (⟨8 * i.val + k.val, hl⟩ : Fin 224) from eq_ix2 _]
  refine congrArg (fun x : EReal => query x2 n a * x) (shapeCast_apply x5 _ _ (ix3 a i k) ?_)
  rw [Shape.rowMajor_val_three, Shape.rowMajor_val_two]
  show (a.val * 28 + i.val) * 8 + k.val = a.val * 224 + (8 * i.val + k.val)
  omega

/-- The interpolated channels. -/
theorem v53_at (n : Fin 131072) (i : Fin 28) : val_main_v53 (F := Ideal) x2 x3 x5 (ix2 n i) = mix (query x2 n) (atoms x5) (point x3 n) i := by
  rw [val_main_v53_apply]
  refine Finset.sum_congr rfl fun k _ => ?_
  rw [show lidx_main_v53 (ix2 n i) k = ix3 n i k from eq_ix3 _, show ridx_main_v53 (ix2 n i) k = ix2 n k from eq_ix2 _, v2_at, v52_at]

/-- The densities. -/
theorem v55_at (n : Fin 131072) : val_main_v55 (F := Ideal) x2 x3 x5 (ix1 n) = sigma (query x2 n) (atoms x5) (point x3 n) :=
  (cast21 _ _ n (0 : Fin 1) n (by omega)).trans ((cols 27 _ _ n 0 27 rfl).trans (v53_at x2 x3 x5 n 27))

end Proofs.RefMix

end
-- ==== Proof.MaskIndex.lean ====
/-
  UNTRUSTED — the positions of the mask's true entries, as `nonzero` computes them: a running count of the mask, a histogram of the counts, a running
  count of the histogram. First on naturals, then on 32-bit words.
-/
module

public import Idealize.ShloMosaic.Lib.Routing.OpsSet
public import Idealize.ShloMosaic.Lib.Routing.OpsPair
public import Idealize.ShloMosaic.Lib.Routing.Words

@[expose] public section

namespace Proofs.MaskIndex

open Idealize.ShloMosaic Idealize.ShloMosaic.ValueIdx Idealize.ShloMosaic.Routing

/-- One for a flat position in the first half of its row of 128, zero for one in the second half. -/
def bit (i : Nat) : Nat := if i % 128 < 64 then 1 else 0

/-- How many of the positions `0 … i` lie in the first half of their row. -/
def cnt (i : Nat) : Nat := ((List.range (i + 1)).map bit).sum

/-- The flat position of the `n`-th entry of the first halves. -/
def pos (n : Nat) : Nat := 128 * (n / 64) + n % 64

/-- The number of first-half positions before `k`, in closed form. -/
theorem sum_bit (k : Nat) : ((List.range k).map bit).sum = 64 * (k / 128) + min (k % 128) 64 := by
  induction k with
  | zero => rfl
  | succ k ih =>
    rw [List.range_succ, List.map_append, List.sum_append, ih]
    simp only [List.map_cons, List.map_nil, List.sum_cons, List.sum_nil, bit]
    split <;> omega

/-- Counting up to position `i` gives at most `n` exactly before the `n`-th entry's position. -/
theorem cnt_le_iff (i n : Nat) : cnt i ≤ n ↔ i < pos n := by
  unfold cnt pos
  rw [sum_bit]
  omega

/-- The number of indices below `N` whose value is at most `n` is the sum over the values `0 … n` of the numbers of indices with that value. -/
theorem sum_count (g : Nat → Nat) (N n : Nat) :
    ((List.range (n + 1)).map fun x => Nat.count (fun i => g i = x) N).sum = Nat.count (fun i => g i ≤ n) N := by
  induction N with
  | zero => simp
  | succ N ih =>
    simp only [Nat.count_succ]
    rw [← ih]
    clear ih
    induction n with
    | zero => simp [List.range_succ]
    | succ n ih2 =>
      rw [List.range_succ (n := n + 1), List.map_append, List.map_append, List.sum_append, List.sum_append, ih2]
      simp only [List.map_cons, List.map_nil, List.sum_cons, List.sum_nil]
      split_ifs <;> omega

/-- Below `N`, the indices smaller than `t ≤ N` number `t`. -/
theorem count_lt (t N : Nat) (h : t ≤ N) : Nat.count (fun i => i < t) N = t := by
  have key : ∀ N, Nat.count (fun i => i < t) N = min t N := by
    intro N
    induction N with
    | zero => simp
    | succ N ih => rw [Nat.count_succ, ih]; split <;> omega
  rw [key]; omega

/-- The running count of the histogram of the running counts is the position of the `n`-th entry. -/
theorem sum_hist (n N : Nat) (h : pos n ≤ N) :
    ((List.range (n + 1)).map fun x => Nat.count (fun i => cnt i = x) N).sum = pos n := by
  rw [sum_count]
  simp only [cnt_le_iff]
  exact count_lt _ _ h

/-- A scatter of `M` scalars into a vector of `N`, one index word each: update `i` lands at `x` exactly when its word is that of `x`. -/
theorem lands_iff {M N : Nat} (d : ScatterDims (shape1 N) (shape2 M 1) (shape1 M)) (hiw : d.insertedWindowDims = [0])
    (hsd : d.scatterDimsToOperandDims = [0]) (hivd : d.indexVectorDim = 1) (idx : IVec (shape2 M 1) 32) (i : Fin M) (x : Fin N) (v : Nat)
    (hv : idx (ix2 i (0 : Fin 1)) = BitVec.ofNat 32 v) (hv31 : v < 2 ^ 31) : d.resultIdx? (ix1 i) idx = some (ix1 x) ↔ v = x.val := by
  have hm : (0 : Fin 1) ∈ d.scatterDimsToOperandDims := by rw [hsd]; exact List.mem_singleton.2 rfl
  have hw : d.window (ix1 i) 0 = 0 := by
    unfold ScatterDims.window
    rw [dif_neg fun h => (of_decide_eq_true (List.mem_filter.1 h).2) (by rw [hiw]; exact List.mem_singleton.2 rfl)]
  have hp : d.siIdx (ix1 i) ⟨d.scatterDimsToOperandDims.idxOf 0, List.idxOf_lt_length_iff.2 hm⟩ = ix2 i (0 : Fin 1) := by
    funext b
    apply Fin.ext
    match b with
    | ⟨0, _⟩ =>
      unfold ScatterDims.siIdx
      rw [dif_neg (by rw [hivd]; exact Nat.zero_ne_one)]
      unfold ScatterDims.siCoord
      have e : ∀ X : Fin 1, (ix1 i X).val = i.val := fun X => by rw [Subsingleton.elim X 0]
      simp only [Fin.val_cast]
      exact e _
    | ⟨1, _⟩ =>
      unfold ScatterDims.siIdx
      rw [dif_pos (by rw [hivd])]
      show List.idxOf (0 : Fin 1) d.scatterDimsToOperandDims = 0
      rw [hsd]; simp
  have hs : d.start (ix1 i) idx 0 = (v : Int) := by
    unfold ScatterDims.start
    rw [dif_pos hm, hp, hv, BitVec.toInt_eq_toNat_of_msb (msb_ofNat32 hv31), BitVec.toNat_ofNat, Nat.mod_eq_of_lt (by omega)]
  rw [resultIdx?_ix1, hs, hw]
  omega

/-- Adding ones at `M` index words into zeros leaves at `x` the number of words that are `x`. -/
theorem hist_at {M N : Nat} (d : ScatterDims (shape1 N) (shape2 M 1) (shape1 M)) (hiw : d.insertedWindowDims = [0])
    (hsd : d.scatterDimsToOperandDims = [0]) (hivd : d.indexVectorDim = 1) (x0 : IVec (shape1 N) 32) (hx0 : ∀ i, x0 i = 0#32)
    (idx : IVec (shape2 M 1) 32) (upd : IVec (shape1 M) 32) (hupd : ∀ i, upd i = 1#32) (g : Nat → Nat)
    (hg : ∀ i : Fin M, idx (ix2 i (0 : Fin 1)) = BitVec.ofNat 32 (g i.val)) (hg31 : ∀ i : Fin M, g i.val < 2 ^ 31) (x : Fin N) :
    Host.scatter d IntOp.addi x0 idx upd (ix1 x) = BitVec.ofNat 32 (Nat.count (fun i => g i = x.val) M) := by
  rw [scatter_at]
  have key : ∀ (l : List (Fin (shape1 M).numel)) (z : Nat),
      l.foldl (fun a n => if d.resultIdx? ((shape1 M).rowMajor.symm n) idx = some (ix1 x) then IntOp.addi a (upd ((shape1 M).rowMajor.symm n)) else a)
        (BitVec.ofNat 32 z) = BitVec.ofNat 32 (z + l.countP fun n => decide (g n.val = x.val)) := by
    intro l
    induction l with
    | nil => intro z; rfl
    | cons n l ih =>
      intro z
      have hl := lands_iff d hiw hsd hivd idx (n.cast (numel1 M)) x _ (hg _) (hg31 _)
      rw [List.foldl_cons, symm1, List.countP_cons, hupd]
      by_cases e : g n.val = x.val
      · rw [if_pos (hl.2 e), if_pos (decide_eq_true e), show IntOp.addi (BitVec.ofNat 32 z) 1#32 = BitVec.ofNat 32 (z + 1) from (BitVec.ofNat_add z 1).symm, ih, Nat.add_assoc, Nat.add_comm 1]
      · rw [if_neg (fun h => e (hl.1 h)), if_neg (fun h => e (of_decide_eq_true h)), ih]
        rfl
  rw [hx0]
  refine (key _ 0).trans ?_
  rw [Nat.zero_add, countP_finRange _ (fun i => g i = x.val), numel1]

/-- A scatter of `M` rows of length `C` into a table of `N` rows, one row word each: entry `(i, c)` of the updates lands at `(x, e)` exactly when row `i`'s word
    is that of `x` and the columns agree. -/
theorem lands_row_iff {M N C : Nat} (d : ScatterDims (shape2 N C) (shape2 M 1) (shape2 M C)) (huw : d.updateWindowDims = [1]) (hiw : d.insertedWindowDims = [0])
    (hsd : d.scatterDimsToOperandDims = [0]) (hivd : d.indexVectorDim = 1) (idx : IVec (shape2 M 1) 32) (i : Fin M) (c : Fin C) (x : Fin N) (e : Fin C) (v : Nat)
    (hv : idx (ix2 i (0 : Fin 1)) = BitVec.ofNat 32 v) (hv31 : v < 2 ^ 31) :
    d.resultIdx? (ix2 i c) idx = some (ix2 x e) ↔ v = x.val ∧ c = e := by
  have hm : (0 : Fin 2) ∈ d.scatterDimsToOperandDims := by rw [hsd]; exact List.mem_singleton.2 rfl
  have hkept : d.sKept = [1] := by
    show (shape2 N C).kept d.insertedWindowDims = _
    rw [hiw]; rfl
  have hw0 : d.window (ix2 i c) 0 = 0 := by
    unfold ScatterDims.window
    rw [dif_neg fun h => (of_decide_eq_true (List.mem_filter.1 h).2) (by rw [hiw]; exact List.mem_singleton.2 rfl)]
  have hw1 : d.window (ix2 i c) 1 = c.val := by
    unfold ScatterDims.window
    rw [dif_pos (by rw [hkept]; exact List.mem_singleton.2 rfl)]
    have q : ∀ X : Fin 2, X ∈ d.updateWindowDims → (ix2 i c X).val = c.val := fun X hX => by
      rw [huw] at hX
      obtain rfl : X = 1 := List.mem_singleton.1 hX
      rfl
    exact q _ (List.getElem_mem _)
  have hs1 : d.start (ix2 i c) idx 1 = 0 := by
    unfold ScatterDims.start
    rw [dif_neg fun h => by rw [hsd] at h; exact absurd (List.mem_singleton.1 h) (by decide : (1 : Fin 2) ≠ 0)]
  have hp : d.siIdx (ix2 i c) ⟨d.scatterDimsToOperandDims.idxOf 0, List.idxOf_lt_length_iff.2 hm⟩ = ix2 i (0 : Fin 1) := by
    funext b
    apply Fin.ext
    match b with
    | ⟨0, _⟩ =>
      unfold ScatterDims.siIdx
      rw [dif_neg (by rw [hivd]; exact Nat.zero_ne_one)]
      unfold ScatterDims.siCoord
      have q : ∀ X : Fin 2, X ∈ d.uScatter → (ix2 i c X).val = i.val := fun X hX => by
        have h1 : X ∉ d.updateWindowDims := of_decide_eq_true (List.mem_filter.1 hX).2
        rw [huw] at h1
        have h2 : X ≠ 1 := fun h => h1 (List.mem_singleton.2 h)
        obtain rfl : X = 0 := by omega
        rfl
      simp only [Fin.val_cast]
      exact q _ (List.getElem_mem _)
    | ⟨1, _⟩ =>
      unfold ScatterDims.siIdx
      rw [dif_pos (by rw [hivd])]
      show List.idxOf (0 : Fin 2) d.scatterDimsToOperandDims = 0
      rw [hsd]; simp
  have hs0 : d.start (ix2 i c) idx 0 = (v : Int) := by
    unfold ScatterDims.start
    rw [dif_pos hm, hp, hv, BitVec.toInt_eq_toNat_of_msb (msb_ofNat32 hv31), BitVec.toNat_ofNat, Nat.mod_eq_of_lt (by omega)]
  rw [resultIdx?_ix2, hs0, hw0, hs1, hw1, Fin.ext_iff]
  omega

end Proofs.MaskIndex
-- ==== Proof.RefIndex.lean ====
/-
  UNTRUSTED — the reference's list of flat positions (`nonzero` of the mask) when the mask marks the first half of every row, and what the three
  indexed operations read and write through it.
-/
module

public import proofs.«01_k».proof.Proof.MaskIndex
public import proofs.«01_k».proof.Proof.Gen.ReferenceIdeal.Read

@[expose] public section

noncomputable section

namespace Proofs.RefIndex

open Idealize.ShloMosaic Idealize.ShloMosaic.ValueIdx Idealize.ShloMosaic.Routing Idealize.ShloMosaic.WordCmp
open Cert.ReferenceIdeal Cert.ReferenceIdeal.Gen Cert.ReferenceIdeal.Read Proofs.MaskIndex

variable (x1 : (⟨S2048x3, .f32⟩ : BufTy).Contents (Elt Ideal)) (x2 : (⟨S131072x64, .f32⟩ : BufTy).Contents (Elt Ideal))
  (x3 : (⟨S131072x3, .f32⟩ : BufTy).Contents (Elt Ideal)) (x5 : (⟨S64x28x8, .f32⟩ : BufTy).Contents (Elt Ideal))
  (x6 : (⟨S2048x128, .i1⟩ : BufTy).Contents (Elt Ideal))

/-- The running count is at most the number of positions. -/
theorem cnt_small (i : Fin 262144) : cnt i.val < 2 ^ 31 := by
  unfold cnt; rw [sum_bit]; omega

/-- The mask marks exactly the first half of every row. -/
def HalfMask : Prop := ∀ (r : Fin 2048) (c : Fin 128), x6 (ix2 r c) = BitVec.ofBool (decide (c.val < 64))

variable {x6} (hm : HalfMask x6)
include hm

/-- The flattened mask as a word: one in the first half of a row, zero in the second. -/
theorem mask_word (i : Fin 262144) : extui 32 (val_main_v56 (F := Ideal) x6) natLt_1_32 (ix1 i) = BitVec.ofNat 32 (bit i.val) := by
  have hr : i.val / 128 < 2048 := by omega
  have hc : i.val % 128 < 128 := by omega
  have e : val_main_v56 (F := Ideal) x6 (ix1 i) = x6 (ix2 (⟨i.val / 128, hr⟩ : Fin 2048) (⟨i.val % 128, hc⟩ : Fin 128)) :=
    cast21 x6 _ _ _ _ (by show i.val = i.val / 128 * 128 + i.val % 128; omega)
  show (val_main_v56 (F := Ideal) x6 (ix1 i)).setWidth 32 = _
  rw [e, hm, setWidth_ofBool]
  rfl

/-- The running count of the mask. -/
theorem count_word (i : Fin 262144) : val_main_v57 (F := Ideal) x6 (ix1 i) = BitVec.ofNat 32 (cnt i.val) :=
  cumsum1 (N := 262144) rfl _ bit (mask_word hm) _ rfl _ _ i

/-- The histogram of the running counts. -/
theorem hist_word (n : Fin 131072) : val_main_v66 (F := Ideal) x6 (ix1 n) = BitVec.ofNat 32 (Nat.count (fun i => cnt i = n.val) 262144) := by
  refine hist_at (M := 262144) (N := 131072) scatter_S131072_S262144x1_S262144_n_0_0_1 rfl rfl rfl _ (fun i => ?_) _ _ (fun i => ?_) cnt (fun i => ?_) cnt_small n
  · exact bc0 _ _ _
  · exact bc0 _ _ _
  · rw [val_main_v64_apply, show idx_main_v64 (ix2 i (0 : Fin 1)) = ix1 i from eq_ix1 _, val_main_v63_apply, val_main_v60_apply, val_main_v62_apply, count_word hm]
    rw [show val_main_v59 (F := Ideal) (ix1 i) = 0#32 from bc0 _ _ _]
    refine wrap_of_lt _ _ ?_
    have := cnt_small i
    rw [BitVec.toNat_ofNat, Nat.mod_eq_of_lt (by omega)]
    exact this

/-- The running count of the histogram: the flat position of the `n`-th marked entry. -/
theorem raw_word (n : Fin 131072) : val_main_v67 (F := Ideal) x6 (ix1 n) = BitVec.ofNat 32 (pos n.val) := by
  refine (cumsum1 (N := 131072) (Nm1 := 131071) rfl _ (fun x => Nat.count (fun i => cnt i = x) 262144) (hist_word hm) _ rfl _ _ n).trans ?_
  rw [sum_hist _ _ (by unfold pos; omega)]

/-- Dividing by one and reducing modulo the number of positions change nothing, and no entry is filled in: every index is the `n`-th marked position. -/
theorem flat_word (n : Fin 131072) : val_main_v76 (F := Ideal) x6 (ix1 n) = BitVec.ofNat 32 (pos n.val) := by
  have hp : pos n.val < 262144 := by unfold pos; omega
  have h68 : val_main_v68 (F := Ideal) x6 (ix1 n) = BitVec.ofNat 32 (pos n.val / 1) :=
    pyDiv_ap (hb := bcast_S_S131072) (val_main_v67 (F := Ideal) x6) (val_main_call2_v0 (F := Ideal)) (ix1 n) (raw_word hm n) rfl (by omega) (by omega) (by omega)
  rw [Nat.div_one] at h68
  have h69 : val_main_v69 (F := Ideal) x6 (ix1 n) = BitVec.ofNat 32 (pos n.val % 262144) :=
    pyRem_ap (hb := bcast_S_S131072) (val_main_v68 (F := Ideal) x6) (val_main_call3_v0 (F := Ideal)) (ix1 n) h68 rfl (by omega) (by omega) (by omega)
  rw [Nat.mod_eq_of_lt hp] at h69
  have h71 : val_main_v71 (F := Ideal) x6 ix0 = BitVec.ofNat 32 131072 := by
    refine (reduce_sum (N := 262144) _ bit (mask_word hm) _ _).trans ?_
    rw [sum_bit]
    norm_num
  have h75 : val_main_v75 (F := Ideal) x6 (ix1 n) = BitVec.ofBool (decide False) := by
    rw [val_main_v75_apply, val_main_v74_apply, val_main_v72_apply, eq_ix0 (idx_main_v72 _), h71]
    rw [show val_main_v73 (F := Ideal) (ix1 n) = BitVec.ofNat 32 n.val from rfl]
    show BitVec.ofBool ((BitVec.ofNat 32 131072).sle (BitVec.ofNat 32 n.val)) = _
    rw [sle_ofNat32 (by omega) (by omega)]
    rw [decide_eq_false (show ¬ 131072 ≤ n.val by omega), decide_eq_false (fun h : False => h)]
  rw [val_main_v76_apply, h75, select_decide, if_neg (fun h => h), h69]

/-- The indices that the three indexed operations take, after the wrap of negative ones: again the marked positions. -/
theorem wrapped (n : Fin 131072) (z w : IVec S131072 32) (hz : z (ix1 n) = 0#32) :
    select (cmpi .slt (val_main_v76 (F := Ideal) x6) z) w (val_main_v76 (F := Ideal) x6) (ix1 n) = BitVec.ofNat 32 (pos n.val) := by
  have hp : pos n.val < 262144 := by unfold pos; omega
  rw [select_at, cmpi_at, flat_word hm, hz]
  refine wrap_of_lt _ _ ?_
  rw [BitVec.toNat_ofNat, Nat.mod_eq_of_lt (by omega)]
  omega

/-- The density indices as words. -/
theorem idx_sigma (n : Fin 131072) : val_main_v83 (F := Ideal) x6 (ix2 n (0 : Fin 1)) = BitVec.ofNat 32 (pos n.val) := by
  rw [val_main_v83_apply, show idx_main_v83 (ix2 n (0 : Fin 1)) = ix1 n from eq_ix1 _]
  exact wrapped hm n _ _ (bc0 _ _ _)

/-- The harmonics indices as words. -/
theorem idx_sh (n : Fin 131072) : val_main_v245 (F := Ideal) x6 (ix2 n (0 : Fin 1)) = BitVec.ofNat 32 (pos n.val) := by
  rw [val_main_v245_apply, show idx_main_v245 (ix2 n (0 : Fin 1)) = ix1 n from eq_ix1 _]
  exact wrapped hm n _ _ (bc0 _ _ _)

/-- The colour indices as words. -/
theorem idx_rgb (n : Fin 131072) : val_main_v259 (F := Ideal) x6 (ix2 n (0 : Fin 1)) = BitVec.ofNat 32 (pos n.val) := by
  rw [val_main_v259_apply, show idx_main_v259 (ix2 n (0 : Fin 1)) = ix1 n from eq_ix1 _]
  exact wrapped hm n _ _ (bc0 _ _ _)

/-- The scattered densities at a marked position: the point's own density. -/
theorem sigma_hit (r : Fin 2048) (j : Fin 64) (e : Fin 262144) (he : e.val = r.val * 128 + j.val) (n : Fin 131072) (hn : n.val = r.val * 64 + j.val) :
    val_main_v84 (F := Ideal) x2 x3 x5 x6 (ix1 e) = val_main_v55 (F := Ideal) x2 x3 x5 (ix1 n) := by
  have hl := fun k : Fin 131072 => lands_iff (M := 131072) (N := 262144) scatter_S262144_S131072x1_S131072_n_0_0_1 rfl rfl rfl _ k e _ (idx_sigma hm k)
    (by unfold pos; omega)
  refine scatter_set_hit _ _ _ _ _ _ (fun k hk => ?_) (ix1 n) ((hl n).2 ?_)
  · obtain ⟨k, rfl⟩ : ∃ k' : Fin 131072, k = ix1 k' := ⟨k 0, eq_ix1 k⟩
    have h := (hl k).1 hk
    have : k = n := by apply Fin.ext; unfold pos at h; omega
    rw [this]
  · unfold pos; omega

/-- The scattered densities at an unmarked position: zero. -/
theorem sigma_miss (r : Fin 2048) (j : Fin 128) (hj : 64 ≤ j.val) (e : Fin 262144) (he : e.val = r.val * 128 + j.val) :
    val_main_v84 (F := Ideal) x2 x3 x5 x6 (ix1 e) = Ideal.ofBits .f32 0x00000000#32 := by
  have hl := fun k : Fin 131072 => lands_iff (M := 131072) (N := 262144) scatter_S262144_S131072x1_S131072_n_0_0_1 rfl rfl rfl _ k e _ (idx_sigma hm k)
    (by unfold pos; omega)
  refine (scatter_set_miss _ _ _ _ _ (fun k hk => ?_)).trans (bc0 _ _ _)
  obtain ⟨k, rfl⟩ : ∃ k' : Fin 131072, k = ix1 k' := ⟨k 0, eq_ix1 k⟩
  have h := (hl k).1 hk
  unfold pos at h; omega

/-- The scattered colours at a marked position: the point's own colour. -/
theorem rgb_hit (r : Fin 2048) (j : Fin 64) (c : Fin 3) (e : Fin 262144) (he : e.val = r.val * 128 + j.val) (n : Fin 131072) (hn : n.val = r.val * 64 + j.val) :
    val_main_v260 (F := Ideal) x1 x2 x3 x5 x6 (ix2 e c) = val_main_v252 (F := Ideal) x1 x2 x3 x5 x6 (ix2 n c) := by
  have hl := fun (k : Fin 131072) (c' : Fin 3) => lands_row_iff (M := 131072) (N := 262144) scatter_S262144x3_S131072x1_S131072x3_1_0_0_1 rfl rfl rfl rfl _ k c' e c _
    (idx_rgb hm k) (by unfold pos; omega)
  refine scatter_set_hit _ _ _ _ _ _ (fun k hk => ?_) (ix2 n c) ((hl n c).2 ⟨?_, rfl⟩)
  · obtain ⟨k, c', rfl⟩ : ∃ (k' : Fin 131072) (c' : Fin 3), k = ix2 k' c' := ⟨k 0, k 1, eq_ix2 k⟩
    obtain ⟨h, rfl⟩ := (hl k c').1 hk
    have : k = n := by apply Fin.ext; unfold pos at h; omega
    rw [this]
  · unfold pos; omega

/-- The gathered harmonics of a point are those of its ray. -/
theorem sh_row (r : Fin 2048) (j : Fin 64) (s : Fin 9) (n : Fin 131072) (hn : n.val = r.val * 64 + j.val) :
    val_main_v246 (F := Ideal) x1 x6 (ix2 n s) = val_main_v236 (F := Ideal) x1 (ix2 r s) := by
  have hp : pos n.val < 262144 := by unfold pos; omega
  have hr : pos n.val / 128 = r.val := by unfold pos; omega
  refine (gather_row (nb := 262144) (B := 9) (n := 131072) gather_S262144x9_S131072x1_S131072x9_1_0_n_n_0_1_19 rfl rfl rfl rfl rfl _ _ n s
    (⟨pos n.val, hp⟩ : Fin 262144) (idx_sh hm n) (by omega)).trans ?_
  rw [val_main_v239_apply, val_main_v238_apply, val_main_v237_apply]
  congr 1
  rw [eq_ix2 (idx_main_v237 _)]
  congr 1
  · apply Fin.ext
    show (pos n.val * 9 + s.val) / 1152 = r.val
    omega
  · apply Fin.ext
    show (pos n.val * 9 + s.val) % 9 = s.val
    omega

end Proofs.RefIndex

end
-- ==== Proof.RefRay.lean ====
/-
  UNTRUSTED — the reference's rays: the spherical harmonics of every ray, and the colour logits of every point.
-/
module

public import proofs.«01_k».proof.Proof.RefMix
public import proofs.«01_k».proof.Proof.RefIndex
public import proofs.«01_k».proof.Proof.Algebra

@[expose] public section

noncomputable section

namespace Proofs.RefRay

open Idealize.ShloMosaic Idealize.ShloMosaic.ValueIdx Idealize.ShloMosaic.Routing Cert.ReferenceIdeal Cert.ReferenceIdeal.Gen Cert.ReferenceIdeal.Read
open Proofs.KerOps Proofs.Spec Proofs.Scene Proofs.RefMix Proofs.Algebra
open scoped BigOperators

variable (x1 : (⟨S2048x3, .f32⟩ : BufTy).Contents (Elt Ideal)) (x2 : (⟨S131072x64, .f32⟩ : BufTy).Contents (Elt Ideal))
  (x3 : (⟨S131072x3, .f32⟩ : BufTy).Contents (Elt Ideal)) (x5 : (⟨S64x28x8, .f32⟩ : BufTy).Contents (Elt Ideal))
  {x6 : (⟨S2048x128, .i1⟩ : BufTy).Contents (Elt Ideal)}

/-- The length of a ray's direction. -/
theorem v87_at (r : Fin 2048) (z : Fin 1) : val_main_v87 (F := Ideal) x1 (ix2 r z) = len (ray x1 r) := by
  obtain rfl : z = 0 := Subsingleton.elim _ _
  have e : val_main_call6_v2 (F := Ideal) x1 (ix2 r (0 : Fin 1)) = ∑ a, ray x1 r a * ray x1 r a := by
    refine (bcCol _ _ r).trans ?_
    rw [val_main_call6_v1_apply, show val_main_call6_cst (F := Ideal) (Shape.Idx.first h_S_) = 0 from zero_eq, zero_add]
    refine Finset.sum_congr rfl fun a _ => ?_
    rw [show idx_main_call6_v1 (ix1 r) a = ix2 r a from eq_ix2 _]
    rfl
  exact congrArg Ideal.sqrt e

/-- The length of a ray's direction, the second time it is computed. -/
theorem v186_at (r : Fin 2048) (z : Fin 1) : val_main_v186 (F := Ideal) x1 (ix2 r z) = len (ray x1 r) := v87_at x1 r z

/-- The unit direction. -/
theorem v190_at (r : Fin 2048) (a : Fin 3) : val_main_v190 (F := Ideal) x1 (ix2 r a) = dir (ray x1 r) a := by
  have e : val_main_v189 (F := Ideal) x1 (ix2 r a) = len (ray x1 r) + Ideal.ofBits .f32 0x322BCC77#32 := by
    rw [val_main_v189_apply, show idx_main_v189 (ix2 r a) = ix2 r (0 : Fin 1) from eq_ix2 _]
    exact congrArg (fun x : EReal => x + Ideal.ofBits .f32 0x322BCC77#32) (v186_at x1 r 0)
  exact congrArg (Ideal.div (ray x1 r a)) e

/-- The direction's first coordinate. -/
theorem v192_at (r : Fin 2048) : val_main_v192 (F := Ideal) x1 (ix1 r) = dir (ray x1 r) 0 :=
  (cast21 _ _ r (0 : Fin 1) r (by omega)).trans ((cols 0 _ _ r 0 0 rfl).trans (v190_at x1 r 0))
/-- The direction's second coordinate. -/
theorem v194_at (r : Fin 2048) : val_main_v194 (F := Ideal) x1 (ix1 r) = dir (ray x1 r) 1 :=
  (cast21 _ _ r (0 : Fin 1) r (by omega)).trans ((cols 1 _ _ r 0 1 rfl).trans (v190_at x1 r 1))
/-- The direction's third coordinate. -/
theorem v196_at (r : Fin 2048) : val_main_v196 (F := Ideal) x1 (ix1 r) = dir (ray x1 r) 2 :=
  (cast21 _ _ r (0 : Fin 1) r (by omega)).trans ((cols 2 _ _ r 0 2 rfl).trans (v190_at x1 r 2))

/-- The harmonics of a ray. -/
theorem v236_at (r : Fin 2048) (s : Fin 9) : val_main_v236 (F := Ideal) x1 (ix2 r s) = sh (ray x1 r) s := by
  have hx := v192_at x1 r
  have hy := v194_at x1 r
  have hz := v196_at x1 r
  unfold sh
  rw [← hx, ← hy, ← hz]
  unfold val_main_v236
  fin_cases s
  · exact (joined _ _ 0 (by simp) (val_main_v227 (F := Ideal)) rfl 0 rfl r 0 0 rfl).trans (bcCol _ _ r)
  · exact (joined _ _ 1 (by simp) (val_main_v228 (F := Ideal) x1) rfl 1 rfl r 1 0 rfl).trans (bcCol _ _ r)
  · exact (joined _ _ 2 (by simp) (val_main_v229 (F := Ideal) x1) rfl 2 rfl r 2 0 rfl).trans (bcCol _ _ r)
  · exact (joined _ _ 3 (by simp) (val_main_v230 (F := Ideal) x1) rfl 3 rfl r 3 0 rfl).trans (bcCol _ _ r)
  · exact (joined _ _ 4 (by simp) (val_main_v231 (F := Ideal) x1) rfl 4 rfl r 4 0 rfl).trans (bcCol _ _ r)
  · exact (joined _ _ 5 (by simp) (val_main_v232 (F := Ideal) x1) rfl 5 rfl r 5 0 rfl).trans (bcCol _ _ r)
  · exact (joined _ _ 6 (by simp) (val_main_v233 (F := Ideal) x1) rfl 6 rfl r 6 0 rfl).trans (bcCol _ _ r)
  · exact (joined _ _ 7 (by simp) (val_main_v234 (F := Ideal) x1) rfl 7 rfl r 7 0 rfl).trans (bcCol _ _ r)
  · exact (joined _ _ 8 (by simp) (val_main_v235 (F := Ideal) x1) rfl 8 rfl r 8 0 rfl).trans (bcCol _ _ r)

variable (hm : RefIndex.HalfMask x6)
include hm

/-- The colour logits. -/
theorem v252_at (r : Fin 2048) (j : Fin 64) (c : Fin 3) : val_main_v252 (F := Ideal) x1 x2 x3 x5 x6 (ix2 (pnt r j) c) = hue x1 x2 x3 x5 r c j := by
  rw [val_main_v252_apply, show val_main_cst_56 (F := Ideal) (Shape.Idx.first h_S_) = 0 from zero_eq, zero_add]
  unfold hue rgb
  refine Finset.sum_congr rfl fun s _ => ?_
  rw [show idx_main_v252 (ix2 (pnt r j) c) s = ix3 (pnt r j) c s from eq_ix3 _]
  have ea : val_main_v250 (F := Ideal) x1 x6 (ix3 (pnt r j) c s) = sh (ray x1 r) s := by
    rw [val_main_v250_apply, val_main_v247_apply, show idx_main_v247 (idx_main_v250 (ix3 (pnt r j) c s)) = ix2 (pnt r j) s from eq_ix2 _]
    exact (RefIndex.sh_row x1 hm r j s (pnt r j) rfl).trans (v236_at x1 r s)
  have hl : 9 * c.val + s.val < 27 := by omega
  have eb : val_main_v249 (F := Ideal) x2 x3 x5 (ix3 (pnt r j) c s) = mix (query x2 (pnt r j)) (atoms x5) (point x3 (pnt r j)) (chan c s) := by
    have e : val_main_v249 (F := Ideal) x2 x3 x5 (ix3 (pnt r j) c s) = val_main_v248 (F := Ideal) x2 x3 x5 (ix2 (pnt r j) (⟨9 * c.val + s.val, hl⟩ : Fin 27)) := by
      refine shapeCast_apply _ _ _ _ ?_
      rw [Shape.rowMajor_val_three, Shape.rowMajor_val_two]
      show (pnt r j).val * 27 + (9 * c.val + s.val) = ((pnt r j).val * 3 + c.val) * 9 + s.val
      omega
    have e' : val_main_v248 (F := Ideal) x2 x3 x5 (ix2 (pnt r j) (⟨9 * c.val + s.val, hl⟩ : Fin 27)) = val_main_v53 (F := Ideal) x2 x3 x5 (ix2 (pnt r j) (chan c s)) :=
      cols 0 _ _ (pnt r j) (⟨9 * c.val + s.val, hl⟩ : Fin 27) (chan c s) (by show 9 * c.val + s.val = 0 + (9 * c.val + s.val); omega)
    exact e.trans (e'.trans (v53_at x2 x3 x5 (pnt r j) (chan c s)))
  rw [val_main_v251_apply, ea, eb]
  rfl

end Proofs.RefRay

end
-- ==== Proof.Scan.lean ====
/-
  UNTRUSTED — one level of a parallel prefix product along the rows of a table: the neighbours are multiplied in pairs, the half-length table is scanned,
  and the scan of the whole is interleaved back from it with two paddings and an addition.
-/
module

public import Idealize.ShloMosaic.Lib.Pipeline.Value
public import Idealize.ShloMosaic.Lib.ValueIdx
public import Idealize.ShloMosaic.Lib.Routing.Ops
public import Idealize.ShloMosaic.Lib.Pipeline.Value
public import Idealize.ShloMosaic.Lib.ValueIdx
public import Idealize.ShloMosaic.PureOps.Ideal.Laws

@[expose] public section

noncomputable section

namespace Proofs.Scan

open Idealize.ShloMosaic Idealize.ShloMosaic.ValueIdx Idealize.ShloMosaic.Routing

/-- The table whose entries are the products of neighbouring pairs. -/
def red {b : Nat} (f : Fin b → Nat → EReal) (r : Fin b) (i : Nat) : EReal := f r (2 * i) * f r (2 * i + 1)

/-- The product of a row's entries up to and including position `j`. -/
def pre {b : Nat} (f : Fin b → Nat → EReal) (r : Fin b) (j : Nat) : EReal := ∏ i ∈ Finset.range (j + 1), f r i

/-- Up to an odd position the prefix product is the prefix product of the pairs. -/
theorem pre_odd {b : Nat} (f : Fin b → Nat → EReal) (r : Fin b) (i : Nat) : pre (red f) r i = pre f r (2 * i + 1) := by
  induction i with
  | zero => simp [pre, red, Finset.prod_range_succ]
  | succ i ih =>
    unfold pre at ih ⊢
    rw [Finset.prod_range_succ, ih, show 2 * (i + 1) + 1 + 1 = (2 * i + 1 + 1) + 1 + 1 by omega, Finset.prod_range_succ _ ((2 * i + 1 + 1) + 1), Finset.prod_range_succ _ (2 * i + 1 + 1),
      mul_assoc]
    rfl

/-- Up to an even position it is the pairs' prefix product before it times the entry there. -/
theorem pre_even {b : Nat} (f : Fin b → Nat → EReal) (r : Fin b) (i : Nat) : pre f r (2 * (i + 1)) = pre (red f) r i * f r (2 * (i + 1)) := by
  rw [pre_odd]
  unfold pre
  rw [Finset.prod_range_succ]
  congr 1

/-- A strided slice of a table along its rows, at an entry. -/
theorem stride_at {α : Type} {b n m : Nat} (o : Nat) (x : (shape2 b n).Idx → α) (h : (shape2 b n).SlicesBy (![0, o] : Fin 2 → Nat) ![1, 2] (shape2 b m))
    (r : Fin b) (i : Fin m) (p : Fin n) (hp : p.val = o + 2 * i.val) : Host.slice (shape2 b m) ![0, o] ![1, 2] x h (ix2 r i) = x (ix2 r p) := by
  unfold Host.slice
  refine congrArg x (funext fun a => Fin.ext ?_)
  match a with
  | ⟨0, _⟩ => show 0 + 1 * r.val = r.val; omega
  | ⟨1, _⟩ => show o + 2 * i.val = p.val; omega

/-- The pairwise products of a table. -/
theorem down {b n m : Nat} (x : FVec Ideal (shape2 b n) .f32) (f : Fin b → Nat → EReal) (hx : ∀ r i, x (ix2 r i) = f r i.val) (hn : n = 2 * m)
    (h0 : (shape2 b n).SlicesBy (![0, 0] : Fin 2 → Nat) ![1, 2] (shape2 b m)) (h1 : (shape2 b n).SlicesBy (![0, 1] : Fin 2 → Nat) ![1, 2] (shape2 b m))
    (r : Fin b) (i : Fin m) :
    mulf (Host.slice (shape2 b m) ![0, 0] ![1, 2] x h0) (Host.slice (shape2 b m) ![0, 1] ![1, 2] x h1) (ix2 r i) = red f r i.val := by
  have hi := i.isLt
  rw [mulf_apply, stride_at 0 x h0 r i ⟨2 * i.val, by omega⟩ (by show 2 * i.val = _; omega), stride_at 1 x h1 r i ⟨2 * i.val + 1, by omega⟩ (by show 2 * i.val + 1 = _; omega), hx, hx]
  rfl

/-- A table spread out to every second column from column `lo` on, the other columns holding the fill. -/
theorem spread_at {α : Type} {b n m lo hi : Nat} (x : (shape2 b n).Idx → α) (v : shape0.Idx → α)
    (h : (shape2 b n).Pads (![0, lo] : Fin 2 → Nat) ![0, hi] ![0, 1] (shape2 b m)) (hu : 0 < shape0.numel) (r : Fin b) (j : Fin m) :
    pad (shape2 b m) ![0, lo] ![0, hi] ![0, 1] x v h hu (ix2 r j)
      = if hp : lo ≤ j.val ∧ (j.val - lo) % 2 = 0 ∧ (j.val - lo) / 2 < n then x (ix2 r ⟨(j.val - lo) / 2, hp.2.2⟩) else v ix0 := by
  have hv : v (Shape.Idx.first hu) = v ix0 := congrArg v (eq_ix0 _)
  unfold pad
  by_cases hp : lo ≤ j.val ∧ (j.val - lo) % 2 = 0 ∧ (j.val - lo) / 2 < n
  · rw [dif_pos hp, dif_pos]
    · refine congrArg x (funext fun a => Fin.ext ?_)
      match a with
      | ⟨0, _⟩ => show (r.val - 0) / (0 + 1) = r.val; omega
      | ⟨1, _⟩ => rfl
    · intro a
      match a with
      | ⟨0, _⟩ => exact ⟨Nat.zero_le _, Nat.mod_one _, by show (r.val - 0) / (0 + 1) < b; have := r.isLt; omega⟩
      | ⟨1, _⟩ => exact hp
  · rw [dif_neg hp, dif_neg, hv]
    exact fun q => hp (q 1)

/-- One level up: from the scan `s` of the pairs of `x`, the scan of `x`. -/
theorem up {b n m k : Nat} (x : FVec Ideal (shape2 b n) .f32) (s : FVec Ideal (shape2 b m) .f32) (f : Fin b → Nat → EReal) (hm : m = k + 1) (hn : n = 2 * m)
    (hx : ∀ r i, x (ix2 r i) = f r i.val) (hs : ∀ r i, s (ix2 r i) = pre (red f) r i.val)
    (h0 : (shape2 b m).Slices ![0, 0] (shape2 b k)) (h1 : (shape2 b n).SlicesBy (![0, 2] : Fin 2 → Nat) ![1, 2] (shape2 b k))
    (h2 : (shape2 b n).Slices ![0, 0] (shape2 b 1)) (h3 : Shape.Concatenates [shape2 b 1, shape2 b k] (shape2 b m) 1)
    (z z' : FVec Ideal shape0 .f32) (hz : z ix0 = 0) (hz' : z' ix0 = 0)
    (h4 : (shape2 b m).Pads (![0, 0] : Fin 2 → Nat) ![0, 1] ![0, 1] (shape2 b n)) (h5 : (shape2 b m).Pads (![0, 1] : Fin 2 → Nat) ![0, 0] ![0, 1] (shape2 b n))
    (hu hu' : 0 < shape0.numel) (r : Fin b) (j : Fin n) :
    addf (pad (shape2 b n) ![0, 0] ![0, 1] ![0, 1]
          (concatenate (shape2 b m) 1 [⟨shape2 b 1, extractStridedSlice (shape2 b 1) ![0, 0] x h2⟩,
            ⟨shape2 b k, mulf (extractStridedSlice (shape2 b k) ![0, 0] s h0) (Host.slice (shape2 b k) ![0, 2] ![1, 2] x h1)⟩] h3) z h4 hu)
        (pad (shape2 b n) ![0, 1] ![0, 0] ![0, 1] s z' h5 hu') (ix2 r j) = pre f r j.val := by
  have hj := j.isLt
  rw [addf_apply, spread_at, spread_at, hz, hz']
  rcases Nat.even_or_odd' j.val with ⟨i, hi | hi⟩
  · rw [dif_pos (by omega), dif_neg (by omega), add_zero]
    rcases i with _ | i
    · rw [concatenate_pair_apply_left 1 _ _ h3 _ rfl (ix2 r (0 : Fin 1)) (fun a => by
        match a with
        | ⟨0, _⟩ => rfl
        | ⟨1, _⟩ => show 0 = (j.val - 0) / 2; omega)]
      rw [extractStridedSlice_apply _ _ _ _ (ix2 r ⟨0, by omega⟩) (fun a => by
        match a with
        | ⟨0, _⟩ => exact (Nat.zero_add _).symm
        | ⟨1, _⟩ => rfl), hx, hi]
      simp [pre]
    · rw [concatenate_pair_apply_right 1 _ _ h3 _ rfl rfl (ix2 r (⟨i, by omega⟩ : Fin k)) (fun a ha => by
        match a with
        | ⟨0, _⟩ => rfl
        | ⟨1, _⟩ => exact absurd rfl ha) (by show i + 1 = (j.val - 0) / 2; omega)]
      rw [mulf_apply, stride_at 2 x h1 r _ ⟨2 * (i + 1), by omega⟩ (by show 2 * (i + 1) = 2 + 2 * i; omega),
        extractStridedSlice_apply _ _ _ _ (ix2 r ⟨i, by omega⟩) (fun a => by
          match a with
          | ⟨0, _⟩ => exact (Nat.zero_add _).symm
          | ⟨1, _⟩ => exact (Nat.zero_add _).symm), hx, hs, hi, pre_even]
  · rw [dif_neg (by omega), dif_pos (by omega), zero_add, hs, pre_odd]
    congr 1
    show 2 * ((j.val - 1) / 2) + 1 = j.val
    omega

end Proofs.Scan

end
-- ==== Proof.RefScan.lean ====
/-
  UNTRUSTED — the reference's running product: the factors scanned along each ray are the products of the factors up to each position.
-/
module

public import proofs.«01_k».proof.Proof.Scan
public import proofs.«01_k».proof.Proof.Gen.ReferenceIdeal.Read

@[expose] public section

noncomputable section

namespace Proofs.RefScan

open Idealize.ShloMosaic Idealize.ShloMosaic.ValueIdx Idealize.ShloMosaic.Routing Cert.ReferenceIdeal Cert.ReferenceIdeal.Gen Cert.ReferenceIdeal.Read Proofs.Scan

variable (x1 : (⟨S2048x3, .f32⟩ : BufTy).Contents (Elt Ideal)) (x2 : (⟨S131072x64, .f32⟩ : BufTy).Contents (Elt Ideal))
  (x3 : (⟨S131072x3, .f32⟩ : BufTy).Contents (Elt Ideal)) (x4 : (⟨S2048x129, .f32⟩ : BufTy).Contents (Elt Ideal))
  (x5 : (⟨S64x28x8, .f32⟩ : BufTy).Contents (Elt Ideal)) (x6 : (⟨S2048x128, .i1⟩ : BufTy).Contents (Elt Ideal))

/-- The factors of a ray, as a function of the position. -/
def fac (r : Fin 2048) (i : Nat) : EReal := if h : i < 128 then val_main_v104 (F := Ideal) x1 x2 x3 x4 x5 x6 (ix2 r ⟨i, h⟩) else 1

/-- The scanned factors. -/
theorem v181_at (r : Fin 2048) (j : Fin 128) : val_main_v181 (F := Ideal) x1 x2 x3 x4 x5 x6 (ix2 r j) = pre (fac x1 x2 x3 x4 x5 x6) r j.val := by
  have z : Ideal.ofBits .f32 0x00000000#32 = 0 := by simp [Ideal.ofBits, Ideal.ieee]
  have d0 : ∀ (r : Fin 2048) (i : Fin 128), val_main_v104 (F := Ideal) x1 x2 x3 x4 x5 x6 (ix2 r i) = fac x1 x2 x3 x4 x5 x6 r i.val := fun r i => by
    unfold fac; rw [dif_pos i.isLt]
  have d1 : ∀ (r : Fin 2048) (i : Fin 64), val_main_v107 (F := Ideal) x1 x2 x3 x4 x5 x6 (ix2 r i) = (red (fac x1 x2 x3 x4 x5 x6)) r i.val := down _ _ d0 (m := 64) rfl slicesBy_S2048x128_S2048x64_0s1_0s2 slicesBy_S2048x128_S2048x64_0s1_1s2
  have d2 : ∀ (r : Fin 2048) (i : Fin 32), val_main_v110 (F := Ideal) x1 x2 x3 x4 x5 x6 (ix2 r i) = (red (red (fac x1 x2 x3 x4 x5 x6))) r i.val := down _ _ d1 (m := 32) rfl slicesBy_S2048x64_S2048x32_0s1_0s2 slicesBy_S2048x64_S2048x32_0s1_1s2
  have d3 : ∀ (r : Fin 2048) (i : Fin 16), val_main_v113 (F := Ideal) x1 x2 x3 x4 x5 x6 (ix2 r i) = (red (red (red (fac x1 x2 x3 x4 x5 x6)))) r i.val := down _ _ d2 (m := 16) rfl slicesBy_S2048x32_S2048x16_0s1_0s2 slicesBy_S2048x32_S2048x16_0s1_1s2
  have d4 : ∀ (r : Fin 2048) (i : Fin 8), val_main_v116 (F := Ideal) x1 x2 x3 x4 x5 x6 (ix2 r i) = (red (red (red (red (fac x1 x2 x3 x4 x5 x6))))) r i.val := down _ _ d3 (m := 8) rfl slicesBy_S2048x16_S2048x8_0s1_0s2 slicesBy_S2048x16_S2048x8_0s1_1s2
  have d5 : ∀ (r : Fin 2048) (i : Fin 4), val_main_v119 (F := Ideal) x1 x2 x3 x4 x5 x6 (ix2 r i) = (red (red (red (red (red (fac x1 x2 x3 x4 x5 x6)))))) r i.val := down _ _ d4 (m := 4) rfl slicesBy_S2048x8_S2048x4_0s1_0s2 slicesBy_S2048x8_S2048x4_0s1_1s2
  have d6 : ∀ (r : Fin 2048) (i : Fin 2), val_main_v122 (F := Ideal) x1 x2 x3 x4 x5 x6 (ix2 r i) = (red (red (red (red (red (red (fac x1 x2 x3 x4 x5 x6))))))) r i.val := down _ _ d5 (m := 2) rfl slicesBy_S2048x4_S2048x2_0s1_0s2 slicesBy_S2048x4_S2048x2_0s1_1s2
  have d7 : ∀ (r : Fin 2048) (i : Fin 1), val_main_v125 (F := Ideal) x1 x2 x3 x4 x5 x6 (ix2 r i) = (red (red (red (red (red (red (red (fac x1 x2 x3 x4 x5 x6)))))))) r i.val := down _ _ d6 (m := 1) rfl slicesBy_S2048x2_S2048x1_0s1_0s2 slicesBy_S2048x2_S2048x1_0s1_1s2
  have u7 : ∀ (r : Fin 2048) (i : Fin 1), val_main_v125 (F := Ideal) x1 x2 x3 x4 x5 x6 (ix2 r i) = pre (red (red (red (red (red (red (red (fac x1 x2 x3 x4 x5 x6)))))))) r i.val := fun r i => (d7 r i).trans (by
    obtain rfl : i = 0 := Subsingleton.elim _ _
    exact (Finset.prod_range_one _).symm)
  have u6 : ∀ (r : Fin 2048) (i : Fin 2), val_main_v133 (F := Ideal) x1 x2 x3 x4 x5 x6 (ix2 r i) = pre (red (red (red (red (red (red (fac x1 x2 x3 x4 x5 x6))))))) r i.val := up (n := 2) (m := 1) (k := 0) _ _ _ rfl rfl d6 u7 slices_S2048x1_S2048x0_0_0 slicesBy_S2048x2_S2048x0_0s1_2s2 slices_S2048x2_S2048x1_0_0 concatenates_S2048x1_S2048x0_S2048x1_d1 (val_main_cst_27 (F := Ideal)) (val_main_cst_28 (F := Ideal)) z z
    pads_S2048x1_S2048x2_000_011 pads_S2048x1_S2048x2_000_101 h_S_ h_S_
  have u5 : ∀ (r : Fin 2048) (i : Fin 4), val_main_v141 (F := Ideal) x1 x2 x3 x4 x5 x6 (ix2 r i) = pre (red (red (red (red (red (fac x1 x2 x3 x4 x5 x6)))))) r i.val := up (n := 4) (m := 2) (k := 1) _ _ _ rfl rfl d5 u6 slices_S2048x2_S2048x1_0_0 slicesBy_S2048x4_S2048x1_0s1_2s2 slices_S2048x4_S2048x1_0_0 concatenates_S2048x1_S2048x1_S2048x2_d1 (val_main_cst_29 (F := Ideal)) (val_main_cst_30 (F := Ideal)) z z
    pads_S2048x2_S2048x4_000_011 pads_S2048x2_S2048x4_000_101 h_S_ h_S_
  have u4 : ∀ (r : Fin 2048) (i : Fin 8), val_main_v149 (F := Ideal) x1 x2 x3 x4 x5 x6 (ix2 r i) = pre (red (red (red (red (fac x1 x2 x3 x4 x5 x6))))) r i.val := up (n := 8) (m := 4) (k := 3) _ _ _ rfl rfl d4 u5 slices_S2048x4_S2048x3_0_0 slicesBy_S2048x8_S2048x3_0s1_2s2 slices_S2048x8_S2048x1_0_0 concatenates_S2048x1_S2048x3_S2048x4_d1 (val_main_cst_31 (F := Ideal)) (val_main_cst_32 (F := Ideal)) z z
    pads_S2048x4_S2048x8_000_011 pads_S2048x4_S2048x8_000_101 h_S_ h_S_
  have u3 : ∀ (r : Fin 2048) (i : Fin 16), val_main_v157 (F := Ideal) x1 x2 x3 x4 x5 x6 (ix2 r i) = pre (red (red (red (fac x1 x2 x3 x4 x5 x6)))) r i.val := up (n := 16) (m := 8) (k := 7) _ _ _ rfl rfl d3 u4 slices_S2048x8_S2048x7_0_0 slicesBy_S2048x16_S2048x7_0s1_2s2 slices_S2048x16_S2048x1_0_0 concatenates_S2048x1_S2048x7_S2048x8_d1 (val_main_cst_33 (F := Ideal)) (val_main_cst_34 (F := Ideal)) z z
    pads_S2048x8_S2048x16_000_011 pads_S2048x8_S2048x16_000_101 h_S_ h_S_
  have u2 : ∀ (r : Fin 2048) (i : Fin 32), val_main_v165 (F := Ideal) x1 x2 x3 x4 x5 x6 (ix2 r i) = pre (red (red (fac x1 x2 x3 x4 x5 x6))) r i.val := up (n := 32) (m := 16) (k := 15) _ _ _ rfl rfl d2 u3 slices_S2048x16_S2048x15_0_0 slicesBy_S2048x32_S2048x15_0s1_2s2 slices_S2048x32_S2048x1_0_0 concatenates_S2048x1_S2048x15_S2048x16_d1 (val_main_cst_35 (F := Ideal)) (val_main_cst_36 (F := Ideal)) z z
    pads_S2048x16_S2048x32_000_011 pads_S2048x16_S2048x32_000_101 h_S_ h_S_
  have u1 : ∀ (r : Fin 2048) (i : Fin 64), val_main_v173 (F := Ideal) x1 x2 x3 x4 x5 x6 (ix2 r i) = pre (red (fac x1 x2 x3 x4 x5 x6)) r i.val := up (n := 64) (m := 32) (k := 31) _ _ _ rfl rfl d1 u2 slices_S2048x32_S2048x31_0_0 slicesBy_S2048x64_S2048x31_0s1_2s2 slices_S2048x64_S2048x1_0_0 concatenates_S2048x1_S2048x31_S2048x32_d1 (val_main_cst_37 (F := Ideal)) (val_main_cst_38 (F := Ideal)) z z
    pads_S2048x32_S2048x64_000_011 pads_S2048x32_S2048x64_000_101 h_S_ h_S_
  have u0 : ∀ (r : Fin 2048) (i : Fin 128), val_main_v181 (F := Ideal) x1 x2 x3 x4 x5 x6 (ix2 r i) = pre (fac x1 x2 x3 x4 x5 x6) r i.val := up (n := 128) (m := 64) (k := 63) _ _ _ rfl rfl d0 u1 slices_S2048x64_S2048x63_0_0 slicesBy_S2048x128_S2048x63_0s1_2s2 slices_S2048x128_S2048x1_0_0 concatenates_S2048x1_S2048x63_S2048x64_d1 (val_main_cst_39 (F := Ideal)) (val_main_cst_40 (F := Ideal)) z z
    pads_S2048x64_S2048x128_000_011 pads_S2048x64_S2048x128_000_101 h_S_ h_S_
  exact u0 r j

end Proofs.RefScan

end
-- ==== Proof.RefValue.lean ====
/-
  UNTRUSTED — the reference's three results, when the mask marks the first half of every row, as the renderer's common form: the second half of a ray has no
  density, so it is transparent and adds nothing.
-/
module

public import proofs.«01_k».proof.Proof.RefRay
public import proofs.«01_k».proof.Proof.RefScan

@[expose] public section

noncomputable section

namespace Proofs.RefValue

open Idealize.ShloMosaic Idealize.ShloMosaic.ValueIdx Idealize.ShloMosaic.Routing Cert.ReferenceIdeal Cert.ReferenceIdeal.Gen Cert.ReferenceIdeal.Read
open Proofs.KerOps Proofs.Spec Proofs.Scene Proofs.RefMix Proofs.RefRay Proofs.Algebra Proofs.Scan Proofs.RefScan
open scoped BigOperators

/-- The exponential of 0. -/
theorem exp_zero : Ideal.exp 0 = 1 := by
  have h : Ideal.exp ((0 : ℝ) : EReal) = ((Real.exp 0 : ℝ) : EReal) := rfl
  rw [Real.exp_zero] at h
  exact h

/-- A product up to a position, the first factor being 1, is the product of the shifted factors before it. -/
theorem prod_reach (a : Fin 64 → EReal) (f : Nat → EReal) (h0 : f 0 = 1) (hs : ∀ k : Fin 64, k.val < 63 → f (k.val + 1) = thru (a k)) (j : Fin 64) :
    ∏ i ∈ Finset.range (j.val + 1), f i = reach a j := by
  unfold reach
  rw [Finset.prod_range_succ', h0, mul_one, Finset.prod_ite, Finset.prod_const_one, mul_one]
  refine Finset.prod_nbij' (fun i => (⟨i % 64, Nat.mod_lt _ (by decide)⟩ : Fin 64)) (fun k => k.val) (fun i hi => ?_) (fun k hk => ?_) (fun i hi => ?_)
    (fun k hk => ?_) (fun i hi => ?_)
  · have hi := Finset.mem_range.1 hi
    refine Finset.mem_filter.2 ⟨Finset.mem_univ _, Fin.lt_def.2 ?_⟩
    show i % 64 < j.val
    omega
  · exact Finset.mem_range.2 (Fin.lt_def.1 (Finset.mem_filter.1 hk).2)
  · have hi := Finset.mem_range.1 hi
    show i % 64 = i
    omega
  · refine Fin.ext ?_
    show k.val % 64 = k.val
    omega
  · have hi := Finset.mem_range.1 hi
    have e : i % 64 = i := by omega
    have h := hs ⟨i % 64, Nat.mod_lt _ (by decide)⟩ (by show i % 64 < 63; omega)
    rw [← h]
    exact congrArg f (by show i + 1 = i % 64 + 1; omega)

/-- A sum over 128 positions whose second half vanishes. -/
theorem sum_half (f : Fin 128 → EReal) (g : Fin 64 → EReal) (hl : ∀ j : Fin 64, f (up j) = g j) (hh : ∀ j : Fin 128, 64 ≤ j.val → f j = 0) :
    ∑ j, f j = ∑ j, g j := by
  refine (Fin.sum_univ_add (a := 64) (b := 64) f).trans ?_
  have e : ∑ j : Fin 64, f (Fin.natAdd 64 j) = 0 := Finset.sum_eq_zero fun j _ => hh _ (Nat.le_add_right _ _)
  rw [e, add_zero]
  exact Finset.sum_congr rfl fun j _ => hl j

variable (x1 : (⟨S2048x3, .f32⟩ : BufTy).Contents (Elt Ideal)) (x2 : (⟨S131072x64, .f32⟩ : BufTy).Contents (Elt Ideal))
  (x3 : (⟨S131072x3, .f32⟩ : BufTy).Contents (Elt Ideal)) (x4 : (⟨S2048x129, .f32⟩ : BufTy).Contents (Elt Ideal))
  (x5 : (⟨S64x28x8, .f32⟩ : BufTy).Contents (Elt Ideal)) {x6 : (⟨S2048x128, .i1⟩ : BufTy).Contents (Elt Ideal)} (hm : RefIndex.HalfMask x6)

/-- The upper end of an interval. -/
theorem v88_at (r : Fin 2048) (j : Fin 128) : val_main_v88 (F := Ideal) x4 (ix2 r j) = meets x4 r j.succ :=
  cols 1 _ _ r j j.succ (Nat.add_comm _ _)
/-- The lower end of an interval. -/
theorem v89_at (r : Fin 2048) (j : Fin 128) : val_main_v89 (F := Ideal) x4 (ix2 r j) = meets x4 r j.castSucc :=
  cols 0 _ _ r j j.castSucc (Nat.zero_add _).symm

/-- The length of an interval. -/
theorem v92_at (r : Fin 2048) (j : Fin 128) : val_main_v92 (F := Ideal) x1 x4 (ix2 r j) = delta (ray x1 r) (meets x4 r) j := by
  rw [val_main_v92_apply, val_main_v90_apply, v88_at, v89_at, val_main_v91_apply, show idx_main_v91 (ix2 r j) = ix2 r (0 : Fin 1) from eq_ix2 _, v87_at]
  rfl

/-- The middle of an interval. -/
theorem v282_at (r : Fin 2048) (j : Fin 128) : val_main_v282 (F := Ideal) x4 (ix2 r j) = mid (meets x4 r) j := by
  have h1 : val_main_v278 (F := Ideal) x4 (ix2 r j) = meets x4 r j.succ := v88_at x4 r j
  have h0 : val_main_v279 (F := Ideal) x4 (ix2 r j) = meets x4 r j.castSucc := v89_at x4 r j
  rw [val_main_v282_apply, val_main_v280_apply, h1, h0]
  rfl

/-- The opacity from the density. -/
theorem v97_of (r : Fin 2048) (j : Fin 128) (σ : EReal) (h : val_main_v85 (F := Ideal) x2 x3 x5 x6 (ix2 r j) = σ) :
    val_main_v97 (F := Ideal) x1 x2 x3 x4 x5 x6 (ix2 r j) = opac σ (delta (ray x1 r) (meets x4 r) j) := by
  have e86 : val_main_v86 (F := Ideal) x2 x3 x5 x6 (ix2 r j) = max σ zero := by
    rw [val_main_v86_apply, h]
    rfl
  have e94 : val_main_v94 (F := Ideal) x1 x2 x3 x4 x5 x6 (ix2 r j) = -(max σ zero) * delta (ray x1 r) (meets x4 r) j := by
    rw [val_main_v94_apply, val_main_v93_apply, e86, v92_at]
    rfl
  rw [val_main_v97_apply, val_main_v95_apply, e94]
  rfl

/-- The threshold. -/
theorem cut_at (r : Fin 2048) (j : Fin 128) :
    val_main_v185 (F := Ideal) x1 x2 x3 x4 x5 x6 (ix2 r j) = cut (val_main_v182 (F := Ideal) x1 x2 x3 x4 x5 x6 (ix2 r j)) := by
  rw [val_main_v185_apply, val_main_v184_apply]
  generalize val_main_v182 (F := Ideal) x1 x2 x3 x4 x5 x6 (ix2 r j) = x
  exact WordCmp.select_decide _ _ _

include hm

/-- The opacities. -/
theorem v97_at (r : Fin 2048) (j : Fin 128) : val_main_v97 (F := Ideal) x1 x2 x3 x4 x5 x6 (ix2 r j) = alpha x1 x2 x3 x4 x5 r j := by
  have hn : r.val * 128 + j.val < 262144 := by omega
  have e85 : val_main_v85 (F := Ideal) x2 x3 x5 x6 (ix2 r j) = val_main_v84 (F := Ideal) x2 x3 x5 x6 (ix1 (⟨r.val * 128 + j.val, hn⟩ : Fin 262144)) :=
    cast12 _ _ r j _ rfl
  unfold alpha
  split
  · rename_i h
    exact v97_of x1 x2 x3 x4 x5 r j _ (e85.trans ((RefIndex.sigma_hit x2 x3 x5 hm r ⟨j.val, h⟩ _ rfl (pnt r ⟨j.val, h⟩) rfl).trans (v55_at x2 x3 x5 _)))
  · rename_i h
    refine (v97_of x1 x2 x3 x4 x5 r j _ (e85.trans (RefIndex.sigma_miss x2 x3 x5 hm r j (by omega) _ rfl))).trans ?_
    unfold opac
    rw [show zero = 0 from zero_eq, show one = 1 from one_eq, show Ideal.ofBits .f32 0x00000000#32 = 0 from zero_eq, max_self, neg_zero, zero_mul]
    rw [exp_zero]
    show ((1 : ℝ) : EReal) - ((1 : ℝ) : EReal) = 0
    rw [← EReal.coe_sub, sub_self]
    rfl

/-- The factors of the running product. -/
theorem fac_zero (r : Fin 2048) : fac x1 x2 x3 x4 x5 x6 r 0 = 1 := by
  unfold fac
  rw [dif_pos (by decide)]
  have e103 : val_main_v103 (F := Ideal) x1 x2 x3 x4 x5 x6 (ix2 r (0 : Fin 129)) = 1 := by
    unfold val_main_v103
    exact (joined _ _ 0 (by simp) (val_main_v98 (F := Ideal)) rfl 0 rfl r 0 0 rfl).trans one_eq
  unfold val_main_v104
  exact (cols 0 _ _ r _ (0 : Fin 129) rfl).trans e103

/-- The factors of the running product after the first. -/
theorem fac_succ (r : Fin 2048) (k : Fin 64) : fac x1 x2 x3 x4 x5 x6 r (k.val + 1) = thru (opacs x1 x2 x3 x4 x5 r k) := by
  have hk : k.val + 1 < 128 := by omega
  have h97 : val_main_v97 (F := Ideal) x1 x2 x3 x4 x5 x6 (ix2 r (up k)) = opacs x1 x2 x3 x4 x5 r k := (v97_at x1 x2 x3 x4 x5 hm r (up k)).trans (dif_pos k.isLt)
  unfold fac
  rw [dif_pos hk]
  have e103 : val_main_v103 (F := Ideal) x1 x2 x3 x4 x5 x6 (ix2 r (⟨k.val + 1, by omega⟩ : Fin 129)) = val_main_v102 (F := Ideal) x1 x2 x3 x4 x5 x6 (ix2 r (up k)) := by
    unfold val_main_v103
    exact joined _ _ 1 (by simp) (val_main_v102 (F := Ideal) x1 x2 x3 x4 x5 x6) rfl 1 rfl r _ (up k) (Nat.add_comm _ _)
  have e104 : val_main_v104 (F := Ideal) x1 x2 x3 x4 x5 x6 (ix2 r (⟨k.val + 1, hk⟩ : Fin 128)) = val_main_v103 (F := Ideal) x1 x2 x3 x4 x5 x6 (ix2 r (⟨k.val + 1, by omega⟩ : Fin 129)) := by
    unfold val_main_v104
    exact cols 0 _ _ r _ _ (Nat.zero_add _).symm
  rw [e104, e103, val_main_v102_apply, val_main_v100_apply, h97]
  rfl

/-- What is absorbed in an interval of the first half. -/
theorem v185_low (r : Fin 2048) (j : Fin 64) : val_main_v185 (F := Ideal) x1 x2 x3 x4 x5 x6 (ix2 r (up j)) = keep (opacs x1 x2 x3 x4 x5 r) j := by
  have h97 : val_main_v97 (F := Ideal) x1 x2 x3 x4 x5 x6 (ix2 r (up j)) = opacs x1 x2 x3 x4 x5 r j := (v97_at x1 x2 x3 x4 x5 hm r (up j)).trans (dif_pos j.isLt)
  have h181 : val_main_v181 (F := Ideal) x1 x2 x3 x4 x5 x6 (ix2 r (up j)) = reach (opacs x1 x2 x3 x4 x5 r) j :=
    (v181_at x1 x2 x3 x4 x5 x6 r (up j)).trans (prod_reach _ _ (fac_zero x1 x2 x3 x4 x5 hm r) (fun k _ => fac_succ x1 x2 x3 x4 x5 hm r k) j)
  have h182 : val_main_v182 (F := Ideal) x1 x2 x3 x4 x5 x6 (ix2 r (up j)) = opacs x1 x2 x3 x4 x5 r j * reach (opacs x1 x2 x3 x4 x5 r) j := by
    rw [val_main_v182_apply, h97, h181]
    rfl
  rw [cut_at, h182]
  rfl

/-- Nothing is absorbed in an interval of the second half. -/
theorem v185_high (r : Fin 2048) (j : Fin 128) (hj : 64 ≤ j.val) : val_main_v185 (F := Ideal) x1 x2 x3 x4 x5 x6 (ix2 r j) = 0 := by
  have h97 : val_main_v97 (F := Ideal) x1 x2 x3 x4 x5 x6 (ix2 r j) = 0 := (v97_at x1 x2 x3 x4 x5 hm r j).trans ((dif_neg (by omega)).trans zero_eq)
  have h182 : val_main_v182 (F := Ideal) x1 x2 x3 x4 x5 x6 (ix2 r j) = 0 := by
    rw [val_main_v182_apply, h97]
    exact zero_mul _
  rw [cut_at, h182]
  unfold cut
  rw [show zero = 0 from zero_eq, ite_self]

/-- The colour of an interval of the first half. -/
theorem v267_low (r : Fin 2048) (j : Fin 64) (c : Fin 3) :
    val_main_v267 (F := Ideal) x1 x2 x3 x5 x6 (ix3 r (up j) c) = Ideal.logistic (hue x1 x2 x3 x5 r c j) := by
  have hn : r.val * 128 + j.val < 262144 := by omega
  have e : val_main_v261 (F := Ideal) x1 x2 x3 x5 x6 (ix3 r (up j) c) = hue x1 x2 x3 x5 r c j := by
    have e' : val_main_v261 (F := Ideal) x1 x2 x3 x5 x6 (ix3 r (up j) c)
        = val_main_v260 (F := Ideal) x1 x2 x3 x5 x6 (ix2 (⟨r.val * 128 + j.val, hn⟩ : Fin 262144) c) := by
      refine shapeCast_apply _ _ _ _ ?_
      rw [Shape.rowMajor_val_three, Shape.rowMajor_val_two]
      rfl
    exact e'.trans ((RefIndex.rgb_hit x1 x2 x3 x5 hm r j c _ rfl (pnt r j) rfl).trans (v252_at x1 x2 x3 x5 hm r j c))
  rw [val_main_v267_apply, val_main_v265_apply, val_main_v263_apply, val_main_v262_apply, e]
  unfold Ideal.logistic
  rw [← one_eq]
  rfl

/-- The composited colours. -/
theorem v277_at (r : Fin 2048) (c : Fin 3) : val_main_v277 (F := Ideal) x1 x2 x3 x4 x5 x6 (ix2 r c) = colour x1 x2 x3 x4 x5 r c := by
  have e270 : ∀ j : Fin 128, val_main_v270 (F := Ideal) x1 x2 x3 x4 x5 x6 (ix3 r j c)
      = val_main_v185 (F := Ideal) x1 x2 x3 x4 x5 x6 (ix2 r j) * val_main_v267 (F := Ideal) x1 x2 x3 x5 x6 (ix3 r j c) := by
    intro j
    rw [val_main_v270_apply, val_main_v269_apply, val_main_v268_apply, show idx_main_v268 (idx_main_v269 (ix3 r j c)) = ix2 r j from eq_ix2 _]
    rfl
  have e271 : val_main_v271 (F := Ideal) x1 x2 x3 x4 x5 x6 (ix2 r c)
      = ∑ j, keep (opacs x1 x2 x3 x4 x5 r) j * Ideal.logistic (hue x1 x2 x3 x5 r c j) := by
    rw [val_main_v271_apply, show val_main_cst_62 (F := Ideal) (Shape.Idx.first h_S_) = 0 from zero_eq, zero_add]
    refine sum_half _ _ (fun j => ?_) (fun j hj => ?_)
    · rw [show idx_main_v271 (ix2 r c) (up j) = ix3 r (up j) c from eq_ix3 _, e270, v185_low x1 x2 x3 x4 x5 hm, v267_low x1 x2 x3 x5 hm]
    · rw [show idx_main_v271 (ix2 r c) j = ix3 r j c from eq_ix3 _, e270, v185_high x1 x2 x3 x4 x5 hm r j hj, zero_mul]
  have e272 : val_main_v272 (F := Ideal) x1 x2 x3 x4 x5 x6 (ix1 r) = ∑ j, keep (opacs x1 x2 x3 x4 x5 r) j := by
    rw [val_main_v272_apply, show val_main_cst_63 (F := Ideal) (Shape.Idx.first h_S_) = 0 from zero_eq, zero_add]
    refine sum_half _ _ (fun j => ?_) (fun j hj => ?_)
    · rw [show idx_main_v272 (ix1 r) (up j) = ix2 r (up j) from eq_ix2 _, v185_low x1 x2 x3 x4 x5 hm]
    · rw [show idx_main_v272 (ix1 r) j = ix2 r j from eq_ix2 _, v185_high x1 x2 x3 x4 x5 hm r j hj]
  have e276 : val_main_v276 (F := Ideal) x1 x2 x3 x4 x5 x6 (ix2 r c) = one - ∑ j, keep (opacs x1 x2 x3 x4 x5 r) j := by
    rw [val_main_v276_apply, val_main_v275_apply, val_main_v273_apply, show idx_main_v273 (idx_main_v276 (ix2 r c)) = ix1 r from eq_ix1 _, e272]
    rfl
  rw [val_main_v277_apply, e271, e276]
  rfl

/-- The composited depths. -/
theorem v285_at (r : Fin 2048) (z : Fin 1) : val_main_v285 (F := Ideal) x1 x2 x3 x4 x5 x6 (ix2 r z) = range x1 x2 x3 x4 x5 r := by
  obtain rfl : z = 0 := Subsingleton.elim _ _
  refine (bcCol _ _ r).trans ?_
  rw [val_main_v284_apply, show val_main_cst_66 (F := Ideal) (Shape.Idx.first h_S_) = 0 from zero_eq, zero_add]
  have e283 : ∀ j : Fin 128, val_main_v283 (F := Ideal) x1 x2 x3 x4 x5 x6 (ix2 r j)
      = val_main_v185 (F := Ideal) x1 x2 x3 x4 x5 x6 (ix2 r j) * mid (meets x4 r) j := by
    intro j
    rw [val_main_v283_apply, v282_at]
    rfl
  unfold range depth
  refine sum_half _ _ (fun j => ?_) (fun j hj => ?_)
  · rw [show idx_main_v284 (ix1 r) (up j) = ix2 r (up j) from eq_ix2 _, e283, v185_low x1 x2 x3 x4 x5 hm]
  · rw [show idx_main_v284 (ix1 r) j = ix2 r j from eq_ix2 _, e283, v185_high x1 x2 x3 x4 x5 hm r j hj, zero_mul]

end Proofs.RefValue

end
-- ==== Proof.Pre.lean ====
/-
  UNTRUSTED — what the precondition says of the arguments: the mask marks the first half of every row, and the queries, the points and the atoms are real numbers.
-/
module

public import proofs.«01_k».proof.Proof.Gen.Pre_inputs_tame
public import proofs.«01_k».proof.Proof.RefIndex
public import proofs.«01_k».proof.Proof.Algebra
public import Idealize.ShloMosaic.Lib.ReduceAll

@[expose] public section

noncomputable section

namespace Proofs.Pre

open Idealize.ShloMosaic Idealize.ShloMosaic.ValueIdx Idealize.ShloMosaic.Routing Cert.Pre_inputs_tame Proofs.Algebra

local instance : Cert.Pre_inputs_tame.Facts := Cert.Pre_inputs_tame.Gen.facts
open Cert.Pre_inputs_tame.Facts

/-- A result without axes has one index. -/
local instance : Subsingleton S_.Idx := ⟨fun a b => funext fun i => i.elim0⟩

/-- The word of infinity. -/
theorem inf_eq : Ideal.ofBits .f32 0x7F800000#32 = ⊤ := by simp [Ideal.ofBits, Ideal.ieee]

/-- A conjunction of two bits is 1 when both are. -/
theorem both {x y : BitVec 1} (h : IntOp.andi x y = 1#1) : x = 1#1 ∧ y = 1#1 := IntOp.andi_eq_one.1 h

/-- A number whose absolute value is under infinity is real. -/
theorem real_of {x y : EReal} (hy : y = ⊤) (h : Ideal.cmp .olt (max x (-x)) y = 1#1) : IsReal x := by
  have hlt : max x (-x) < ⊤ := by
    by_contra hn
    rw [hy] at h
    have e : Ideal.cmp .olt (max x (-x)) ⊤ = BitVec.ofBool (decide (max x (-x) < ⊤)) := rfl
    rw [e, decide_eq_false hn] at h
    exact absurd h (by decide)
  refine isReal_of_ne (fun h' => ?_) (fun h' => ?_)
  · rw [h'] at hlt; simp at hlt
  · rw [h'] at hlt; simp at hlt

variable (x0 x1 : FVec Ideal S2048x3 .f32) (x2 : FVec Ideal S131072x64 .f32) (x3 : FVec Ideal S131072x3 .f32) (x4 : FVec Ideal S2048x129 .f32)
  (x5 : FVec Ideal S64x28x8 .f32) (x6 : IVec S2048x128 1)

/-- The marks the precondition compares the mask with. -/
theorem mark_at (r : Fin 2048) (c : Fin 128) :
    broadcastInDim S2048x128 ![0, 1] bcast_S1x128_S2048x128_0_1 (cmpi .slt (broadcastInDim S1x128 ![1] bcast_S128_S1x128_1 (iotaInDim S128 32 0))
      (broadcastInDim S1x128 ![] bcast_S_S1x128 (constantI S_ 32 64#32))) (ix2 r c) = BitVec.ofBool (decide (c.val < 64)) := by
  refine (broadcastInDim_apply _ _ _ _ (ix2 (0 : Fin 1) c) fun a => ?_).trans ?_
  · match a with
    | ⟨0, _⟩ => rfl
    | ⟨1, _⟩ => rfl
  have e1 : broadcastInDim S1x128 ![1] bcast_S128_S1x128_1 (iotaInDim S128 32 0) (ix2 (0 : Fin 1) c) = BitVec.ofNat 32 c.val := by
    refine (broadcastInDim_apply _ _ _ _ (ix1 c) fun a => ?_).trans rfl
    match a with
    | ⟨0, _⟩ => rfl
  have e2 : broadcastInDim S1x128 ![] bcast_S_S1x128 (constantI S_ 32 64#32) (ix2 (0 : Fin 1) c) = 64#32 := bc0 _ _ _
  show IntOp.cmpi .slt (broadcastInDim S1x128 ![1] bcast_S128_S1x128_1 (iotaInDim S128 32 0) (ix2 (0 : Fin 1) c))
    (broadcastInDim S1x128 ![] bcast_S_S1x128 (constantI S_ 32 64#32) (ix2 (0 : Fin 1) c)) = _
  rw [e1, e2]
  revert c
  decide

/-- The precondition, decoded. -/
theorem decode (h : Cert.Pre_inputs_tame.fn (F := Ideal) x0 x1 x2 x3 x4 x5 x6 = fun _ => 1#1) :
    RefIndex.HalfMask x6 ∧ (∀ i, IsReal (x2 i)) ∧ (∀ i, IsReal (x3 i)) ∧ (∀ i, IsReal (x5 i)) := by
  have h0 := congrFun h ix0
  unfold Cert.Pre_inputs_tame.fn Cert.Pre_inputs_tame.fn_part1 at h0
  obtain ⟨h0, h5⟩ := both h0
  obtain ⟨h0, h3⟩ := both h0
  obtain ⟨h6, h2⟩ := both h0
  refine ⟨fun r c => ?_, fun i => ?_, fun i => ?_, fun i => ?_⟩
  · have e := Host.reduce_andi_all _ _ _ _ _ h6 (ix2 r c)
    exact (IntOp.cmpi_eq.1 e).trans (mark_at r c)
  · exact real_of inf_eq (Host.reduce_andi_all _ _ _ _ _ h2 i)
  · exact real_of inf_eq (Host.reduce_andi_all _ _ _ _ _ h3 i)
  · exact real_of inf_eq (Host.reduce_andi_all _ _ _ _ _ h5 i)

end Proofs.Pre

end
-- ==== Proof.Meet.lean ====
/-
  UNTRUSTED — the two programs' results meet: the arrays the kernel leaves are the ones the reference leaves, both being the renderer's common form.
-/
module

public import proofs.«01_k».proof.Proof.KerValue
public import proofs.«01_k».proof.Proof.RefValue
public import proofs.«01_k».proof.Proof.Pre
public import proofs.«01_k».proof.Proof.Gen.ReferenceIdeal.Run

@[expose] public section

noncomputable section

namespace Proofs.Meet

open Idealize.ShloMosaic Idealize.ShloMosaic.ValueIdx Idealize.ShloMosaic.Routing Idealize.ShloMosaic.TcCoe Idealize.SL.Sem
open Cert.KernelIdeal Cert.KernelIdeal.Gen Cert.KernelIdeal.Value Proofs.KerValue Proofs.Algebra

variable (m : (ℓ : Loc nD τ sig) → Buf (Elt Ideal) ℓ) (c : Dev nD)
  (x6 : IVec Cert.ReferenceIdeal.S2048x128 1)
  (hm : RefIndex.HalfMask x6) (h2 : ∀ i, IsReal (X2 m c i)) (h3 : ∀ i, IsReal (X3 m c i)) (h5 : ∀ i, IsReal (X5 m c i))
include hm h2 h3 h5

/-- The colours. -/
theorem colours : Cert.ReferenceIdeal.Read.val_main_v277 (F := Ideal) (X1 m c) (X2 m c) (X3 m c) (X4 m c) (X5 m c) x6 = (dats m 0 c).arrAt 9 cfg0.N := by
  funext i
  rw [eq_ix2 i]
  exact (RefValue.v277_at _ _ _ _ _ hm _ _).trans (final9 m c h2 h3 h5 _ _).symm

/-- The opacities. -/
theorem opacities : Cert.ReferenceIdeal.Read.val_main_v97 (F := Ideal) (X1 m c) (X2 m c) (X3 m c) (X4 m c) (X5 m c) x6 = (dats m 0 c).arrAt 10 cfg0.N := by
  funext i
  rw [eq_ix2 i]
  exact (RefValue.v97_at _ _ _ _ _ hm _ _).trans (final10 m c h2 h3 h5 _ _).symm

/-- The depths. -/
theorem depths : Cert.ReferenceIdeal.Read.val_main_v285 (F := Ideal) (X1 m c) (X2 m c) (X3 m c) (X4 m c) (X5 m c) x6 = (dats m 0 c).arrAt 11 cfg0.N := by
  funext i
  rw [eq_ix2 i]
  exact (RefValue.v285_at _ _ _ _ _ hm _ _).trans (final11 m c h2 h3 h5 _ _).symm

end Proofs.Meet

end
-- ==== Proof.lean ====
/-
  The proof of this directory's certificate.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_inputs_tame
public import proofs.«01_k».proof.Proof.Meet
public import Idealize.ShloMosaic.Adequacy
public import Idealize.ShloMosaic.Init

@[expose] public section

noncomputable section

namespace Cert.Proof

open Idealize.ShloMosaic
open Idealize.ShloMosaic.TcCoe
open Idealize.SL.Sem

/-- The frame of the reference: its run read at the seven arguments; it declares no semaphore. -/
theorem frame_ri : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The kernel and the reference leave the same three results, under the precondition. -/
theorem algebraic : Cert.algebraic_KernelIdeal_ReferenceIdeal_pre_inputs_tame := by
  intro m g m' g' hpre hargs
  have hd := fun c => Proofs.Pre.decode _ _ _ _ _ _ _ (hpre c)
  refine ⟨fun c => (Cert.KernelIdeal.Gen.dats m 0 c).arrAt 9 Cert.KernelIdeal.cfg0.N, fun c => (Cert.KernelIdeal.Gen.dats m 0 c).arrAt 10 Cert.KernelIdeal.cfg0.N,
    fun c => (Cert.KernelIdeal.Gen.dats m 0 c).arrAt 11 Cert.KernelIdeal.cfg0.N, Cert.KernelIdeal.Value.run_blocks m g,
    (θ_run Cert.ReferenceIdeal.defs _ _).mono (fun r h c => ⟨?_, ?_, ?_, (h c).2.2.2⟩) (Cert.ReferenceIdeal.Value.run (F := Ideal) m' g')⟩
  all_goals
    obtain ⟨hm, h2, h3, h5⟩ := hd c
    obtain ⟨-, a1, a2, a3, a4, a5, a6⟩ := hargs c
  · refine (h c).1.trans ((Cert.ReferenceIdeal.Read.val_main_v277_eq _).trans (Eq.trans ?_ (Proofs.Meet.colours m c _ hm h2 h3 h5)))
    exact congr (congr (congr (congr (congr (congrArg _ a1) a2) a3) a4) a5) a6
  · refine (h c).2.1.trans ((Cert.ReferenceIdeal.Read.val_main_v97_eq _).trans (Eq.trans ?_ (Proofs.Meet.opacities m c _ hm h2 h3 h5)))
    exact congr (congr (congr (congr (congr (congrArg _ a1) a2) a3) a4) a5) a6
  · refine (h c).2.2.1.trans ((Cert.ReferenceIdeal.Read.val_main_v285_eq _).trans (Eq.trans ?_ (Proofs.Meet.depths m c _ hm h2 h3 h5)))
    exact congr (congr (congr (congr (congr (congrArg _ a1) a2) a3) a4) a5) a6

/-- Every claim of this certificate: the frames of the three programs, the idealization, which rewrote nothing, and the equality of the results. -/
theorem claim : Cert.Claim := ⟨Cert.Kernel.Gen.facts, Cert.KernelIdeal.Gen.facts, Cert.ReferenceIdeal.Gen.facts, Cert.Pre_inputs_tame.Gen.facts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial, trivial, algebraic⟩

end Cert.Proof

end
